-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x300x25x3 : Shape := ⟨4, ![64, 300, 25, 3]⟩
abbrev S25x25 : Shape := ⟨2, ![25, 25]⟩
abbrev S3x3x256 : Shape := ⟨3, ![3, 3, 256]⟩
abbrev S3x256 : Shape := ⟨2, ![3, 256]⟩
abbrev S3x256x256 : Shape := ⟨3, ![3, 256, 256]⟩
abbrev S3x256x1 : Shape := ⟨3, ![3, 256, 1]⟩
abbrev S3x1 : Shape := ⟨2, ![3, 1]⟩
abbrev S7500x512 : Shape := ⟨2, ![7500, 512]⟩
abbrev S512 : Shape := ⟨1, ![512]⟩
abbrev S512x60 : Shape := ⟨2, ![512, 60]⟩
abbrev S60 : Shape := ⟨1, ![60]⟩
abbrev S_ : Shape := ⟨0, ![]⟩

class Facts : Prop where
  bcast_S_S64x300x25x3 : S_.BroadcastsInDim S64x300x25x3 (![] : Fin 0 → Fin S64x300x25x3.rank)
  reducesTo_S64x300x25x3_S_d0_1_2_3 : S64x300x25x3.ReducesTo [0, 1, 2, 3] S_
  h_S_ : 0 < S_.numel
  bcast_S_S25x25 : S_.BroadcastsInDim S25x25 (![] : Fin 0 → Fin S25x25.rank)
  reducesTo_S25x25_S_d0_1 : S25x25.ReducesTo [0, 1] S_
  bcast_S_S3x3x256 : S_.BroadcastsInDim S3x3x256 (![] : Fin 0 → Fin S3x3x256.rank)
  reducesTo_S3x3x256_S_d0_1_2 : S3x3x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256x1 : S_.BroadcastsInDim S3x256x1 (![] : Fin 0 → Fin S3x256x1.rank)
  reducesTo_S3x256x1_S_d0_1_2 : S3x256x1.ReducesTo [0, 1, 2] S_

variable [Facts]

def fn_part1 {F : FTy → Type} [FloatOps F] (main_arg4 : FVec F S3x256x256 .f32) (main_arg5 : FVec F S3x256 .f32) (main_arg6 : FVec F S3x256x1 .f32) (main_v3 : IVec S_ 1) (main_v7 : IVec S_ 1) (main_v11 : IVec S_ 1) (main_v15 : IVec S_ 1) : IVec S_ 1 :=
  let main_v16 : FVec F S3x256x256 .f32 := subf main_arg4 main_arg4
  let main_cst_6 : FVec F S_ .f32 := constant S_ .f32 0x00000000#32
  let main_v17 : FVec F S3x256x256 .f32 := broadcastInDim S3x256x256 ![] bcast_S_S3x256x256 main_cst_6
  let main_v18 : IVec S3x256x256 1 := cmpf .oeq main_v16 main_v17
  let main_c_7 : IVec S_ 1 := constantI S_ 1 1#1
  let main_v19 : IVec S_ 1 := (fun x v => Host.reduce IntOp.andi x v reducesTo_S3x256x256_S_d0_1_2 h_S_) main_v18 main_c_7
  let main_v20 : FVec F S3x256 .f32 := subf main_arg5 main_arg5
  let main_cst_8 : FVec F S_ .f32 := constant S_ .f32 0x00000000#32
  let main_v21 : FVec F S3x256 .f32 := broadcastInDim S3x256 ![] bcast_S_S3x256 main_cst_8
  let main_v22 : IVec S3x256 1 := cmpf .oeq main_v20 main_v21
  let main_c_9 : IVec S_ 1 := constantI S_ 1 1#1
  let main_v23 : IVec S_ 1 := (fun x v => Host.reduce IntOp.andi x v reducesTo_S3x256_S_d0_1 h_S_) main_v22 main_c_9
  let main_v24 : FVec F S3x256x1 .f32 := subf main_arg6 main_arg6
  let main_cst_10 : FVec F S_ .f32 := constant S_ .f32 0x00000000#32
  let main_v25 : FVec F S3x256x1 .f32 := broadcastInDim S3x256x1 ![] bcast_S_S3x256x1 main_cst_10
  let main_v26 : IVec S3x256x1 1 := cmpf .oeq main_v24 main_v25
  let main_c_11 : IVec S_ 1 := constantI S_ 1 1#1
  let main_v27 : IVec S_ 1 := (fun x v => Host.reduce IntOp.andi x v reducesTo_S3x256x1_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S64x300x25x3 .f32) (main_arg1 : FVec F S25x25 .f32) (main_arg2 : FVec F S3x3x256 .f32) (main_arg3 : FVec F S3x256 .f32) (main_arg4 : FVec F S3x256x256 .f32) (main_arg5 : FVec F S3x256 .f32) (main_arg6 : FVec F S3x256x1 .f32) (main_arg7 : FVec F S3x1 .f32) (main_arg8 : FVec F S7500x512 .f32) (main_arg9 : FVec F S512 .f32) (main_arg10 : FVec F S512x60 .f32) (main_arg11 : FVec F S60 .f32) : IVec S_ 1 :=
  let main_v0 : FVec F S64x300x25x3 .f32 := subf main_arg0 main_arg0
  let main_cst : FVec F S_ .f32 := constant S_ .f32 0x00000000#32
  let main_v1 : FVec F S64x300x25x3 .f32 := broadcastInDim S64x300x25x3 ![] bcast_S_S64x300x25x3 main_cst
  let main_v2 : IVec S64x300x25x3 1 := cmpf .oeq main_v0 main_v1
  let main_c : IVec S_ 1 := constantI S_ 1 1#1
  let main_v3 : IVec S_ 1 := (fun x v => Host.reduce IntOp.andi x v reducesTo_S64x300x25x3_S_d0_1_2_3 h_S_) main_v2 main_c
  let main_v4 : FVec F S25x25 .f32 := subf main_arg1 main_arg1
  let main_cst_0 : FVec F S_ .f32 := constant S_ .f32 0x00000000#32
  let main_v5 : FVec F S25x25 .f32 := broadcastInDim S25x25 ![] bcast_S_S25x25 main_cst_0
  let main_v6 : IVec S25x25 1 := cmpf .oeq main_v4 main_v5
  let main_c_1 : IVec S_ 1 := constantI S_ 1 1#1
  let main_v7 : IVec S_ 1 := (fun x v => Host.reduce IntOp.andi x v reducesTo_S25x25_S_d0_1 h_S_) main_v6 main_c_1
  let main_v8 : FVec F S3x3x256 .f32 := subf main_arg2 main_arg2
  let main_cst_2 : FVec F S_ .f32 := constant S_ .f32 0x00000000#32
  let main_v9 : FVec F S3x3x256 .f32 := broadcastInDim S3x3x256 ![] bcast_S_S3x3x256 main_cst_2
  let main_v10 : IVec S3x3x256 1 := cmpf .oeq main_v8 main_v9
  let main_c_3 : IVec S_ 1 := constantI S_ 1 1#1
  let main_v11 : IVec S_ 1 := (fun x v => Host.reduce IntOp.andi x v reducesTo_S3x3x256_S_d0_1_2 h_S_) main_v10 main_c_3
  let main_v12 : FVec F S3x256 .f32 := subf main_arg3 main_arg3
  let main_cst_4 : FVec F S_ .f32 := constant S_ .f32 0x00000000#32
  let main_v13 : FVec F S3x256 .f32 := broadcastInDim S3x256 ![] bcast_S_S3x256 main_cst_4
  let main_v14 : IVec S3x256 1 := cmpf .oeq main_v12 main_v13
  let main_c_5 : IVec S_ 1 := constantI S_ 1 1#1
  let main_v15 : IVec S_ 1 := (fun x v => Host.reduce IntOp.andi x v reducesTo_S3x256_S_d0_1 h_S_) main_v14 main_c_5
  fn_part1 (F := F) main_arg4 main_arg5 main_arg6 main_v3 main_v7 main_v11 main_v15
-- ==== Kernel.lean ====
abbrev S64x300x25x3 : Shape := ⟨4, ![64, 300, 25, 3]⟩
abbrev S25x25 : Shape := ⟨2, ![25, 25]⟩
abbrev S3x3x256 : Shape := ⟨3, ![3, 3, 256]⟩
abbrev S3x256 : Shape := ⟨2, ![3, 256]⟩
abbrev S3x256x256 : Shape := ⟨3, ![3, 256, 256]⟩
abbrev S3x256x1 : Shape := ⟨3, ![3, 256, 1]⟩
abbrev S3x1 : Shape := ⟨2, ![3, 1]⟩
abbrev S7500x512 : Shape := ⟨2, ![7500, 512]⟩
abbrev S512 : Shape := ⟨1, ![512]⟩
abbrev S512x60 : Shape := ⟨2, ![512, 60]⟩
abbrev S60 : Shape := ⟨1, ![60]⟩
abbrev S_ : Shape := ⟨0, ![]⟩
abbrev S8x8 : Shape := ⟨2, ![8, 8]⟩
abbrev S8x1x8x1 : Shape := ⟨4, ![8, 1, 8, 1]⟩
abbrev S1x25x1x25 : Shape := ⟨4, ![1, 25, 1, 25]⟩
abbrev S8x25x8x25 : Shape := ⟨4, ![8, 25, 8, 25]⟩
abbrev S200x200 : Shape := ⟨2, ![200, 200]⟩
abbrev S3x300x25x64 : Shape := ⟨4, ![3, 300, 25, 64]⟩
abbrev S3x7500x64 : Shape := ⟨3, ![3, 7500, 64]⟩
abbrev S3x64x1x7552 : Shape := ⟨4, ![3, 64, 1, 7552]⟩
abbrev S1x7500x64 : Shape := ⟨3, ![1, 7500, 64]⟩
abbrev S1x64x1x7552 : Shape := ⟨4, ![1, 64, 1, 7552]⟩
abbrev S7500x64 : Shape := ⟨2, ![7500, 64]⟩
abbrev S64x7500 : Shape := ⟨2, ![64, 7500]⟩
abbrev S1x64x1x7500 : Shape := ⟨4, ![1, 64, 1, 7500]⟩
abbrev S3x1x1x7552 : Shape := ⟨4, ![3, 1, 1, 7552]⟩
abbrev S3x7552 : Shape := ⟨2, ![3, 7552]⟩
abbrev S7552x3 : Shape := ⟨2, ![7552, 3]⟩
abbrev S48x3 : Shape := ⟨2, ![48, 3]⟩
abbrev S7600x3 : Shape := ⟨2, ![7600, 3]⟩
abbrev S7600x1 : Shape := ⟨2, ![7600, 1]⟩
abbrev S200x3 : Shape := ⟨2, ![200, 3]⟩
abbrev S1x3x256 : Shape := ⟨3, ![1, 3, 256]⟩
abbrev S7600x256 : Shape := ⟨2, ![7600, 256]⟩
abbrev S1x256 : Shape := ⟨2, ![1, 256]⟩
abbrev S200x256 : Shape := ⟨2, ![200, 256]⟩
abbrev S1x256x256 : Shape := ⟨3, ![1, 256, 256]⟩
abbrev S256x256 : Shape := ⟨2, ![256, 256]⟩
abbrev S1x256x1 : Shape := ⟨3, ![1, 256, 1]⟩
abbrev S256x1 : Shape := ⟨2, ![256, 1]⟩
abbrev S200x1 : Shape := ⟨2, ![200, 1]⟩
abbrev S1x1 : Shape := ⟨2, ![1, 1]⟩
abbrev S1x7600 : Shape := ⟨2, ![1, 7600]⟩
abbrev S1x7500 : Shape := ⟨2, ![1, 7500]⟩
abbrev S1x512 : Shape := ⟨2, ![1, 512]⟩
abbrev S1x60 : Shape := ⟨2, ![1, 60]⟩
abbrev S64x60 : Shape := ⟨2, ![64, 60]⟩
abbrev S64x512 : Shape := ⟨2, ![64, 512]⟩

abbrev nBuf : Space → Nat
  | .hbm => 40
  | .vmem => 20
  | .smem => 0
  | _ => 0

abbrev bufTy : (tb : Table) → Fin (tcTables nBuf tb) → BufTy
  | .hbm, ⟨0, _⟩ => ⟨S64x300x25x3, .f32⟩
  | .hbm, ⟨1, _⟩ => ⟨S25x25, .f32⟩
  | .hbm, ⟨2, _⟩ => ⟨S3x3x256, .f32⟩
  | .hbm, ⟨3, _⟩ => ⟨S3x256, .f32⟩
  | .hbm, ⟨4, _⟩ => ⟨S3x256x256, .f32⟩
  | .hbm, ⟨5, _⟩ => ⟨S3x256, .f32⟩
  | .hbm, ⟨6, _⟩ => ⟨S3x256x1, .f32⟩
  | .hbm, ⟨7, _⟩ => ⟨S3x1, .f32⟩
  | .hbm, ⟨8, _⟩ => ⟨S7500x512, .f32⟩
  | .hbm, ⟨9, _⟩ => ⟨S512, .f32⟩
  | .hbm, ⟨10, _⟩ => ⟨S512x60, .f32⟩
  | .hbm, ⟨11, _⟩ => ⟨S60, .f32⟩
  | .hbm, ⟨12, _⟩ => ⟨S25x25, .i32⟩
  | .hbm, ⟨13, _⟩ => ⟨S25x25, .i32⟩
  | .hbm, ⟨14, _⟩ => ⟨S_, .i32⟩
  | .hbm, ⟨15, _⟩ => ⟨S25x25, .i32⟩
  | .hbm, ⟨16, _⟩ => ⟨S25x25, .i32⟩
  | .hbm, ⟨17, _⟩ => ⟨S25x25, .i1⟩
  | .hbm, ⟨18, _⟩ => ⟨S25x25, .f32⟩
  | .hbm, ⟨19, _⟩ => ⟨S25x25, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S8x1x8x1, .f32⟩
  | .hbm, ⟨28, _⟩ => ⟨S1x25x1x25, .f32⟩
  | .hbm, ⟨29, _⟩ => ⟨S8x25x8x25, .f32⟩
  | .hbm, ⟨30, _⟩ => ⟨S8x25x8x25, .f32⟩
  | .hbm, ⟨31, _⟩ => ⟨S8x25x8x25, .f32⟩
  | .hbm, ⟨32, _⟩ => ⟨S200x200, .f32⟩
  | .hbm, ⟨33, _⟩ => ⟨S3x300x25x64, .f32⟩
  | .hbm, ⟨34, _⟩ => ⟨S3x7500x64, .f32⟩
  | .hbm, ⟨35, _⟩ => ⟨S3x64x1x7552, .f32⟩
  | .hbm, ⟨36, _⟩ => ⟨S64x7500, .f32⟩
  | .hbm, ⟨37, _⟩ => ⟨S1x512, .f32⟩
  | .hbm, ⟨38, _⟩ => ⟨S1x60, .f32⟩
  | .hbm, ⟨39, _⟩ => ⟨S64x60, .f32⟩
  | .local _ .vmem, ⟨0, _⟩ => ⟨S1x7500x64, .f32⟩
  | .local _ .vmem, ⟨1, _⟩ => ⟨S1x7500x64, .f32⟩
  | .local _ .vmem, ⟨2, _⟩ => ⟨S1x64x1x7552, .f32⟩
  | .local _ .vmem, ⟨3, _⟩ => ⟨S1x64x1x7552, .f32⟩
  | .local _ .vmem, ⟨4, _⟩ => ⟨S3x1x1x7552, .f32⟩
  | .local _ .vmem, ⟨5, _⟩ => ⟨S3x1x1x7552, .f32⟩
  | .local _ .vmem, ⟨6, _⟩ => ⟨S200x200, .f32⟩
  | .local _ .vmem, ⟨7, _⟩ => ⟨S3x3x256, .f32⟩
  | .local _ .vmem, ⟨8, _⟩ => ⟨S3x256, .f32⟩
  | .local _ .vmem, ⟨9, _⟩ => ⟨S3x256x256, .f32⟩
  | .local _ .vmem, ⟨10, _⟩ => ⟨S3x256, .f32⟩
  | .local _ .vmem, ⟨11, _⟩ => ⟨S3x256x1, .f32⟩
  | .local _ .vmem, ⟨12, _⟩ => ⟨S3x1, .f32⟩
  | .local _ .vmem, ⟨13, _⟩ => ⟨S64x7500, .f32⟩
  | .local _ .vmem, ⟨14, _⟩ => ⟨S64x7500, .f32⟩
  | .local _ .vmem, ⟨15, _⟩ => ⟨S7500x512, .f32⟩
  | .local _ .vmem, ⟨16, _⟩ => ⟨S1x512, .f32⟩
  | .local _ .vmem, ⟨17, _⟩ => ⟨S512x60, .f32⟩
  | .local _ .vmem, ⟨18, _⟩ => ⟨S1x60, .f32⟩
  | .local _ .vmem, ⟨19, _⟩ => ⟨S64x60, .f32⟩
  | _, _ => ⟨S64x300x25x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x7500x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1x7552 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![64, 1], ![false, false]⟩

def k1_off1 (i : grid1.Coords) : Fin 2 → Nat :=
  let arg0 : BitVec 32 := BitVec.ofNat 32 (i 0).val
  let v631 : Index := Scalar.indexCast arg0
  let c0_334 : Index := 0#32
  ![v631.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3x1x1x7552 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S200x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S3x3x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S3x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S3x256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S3x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S3x256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S3x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S64x7500 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev grid2 : Pipeline.Grid := .none

abbrev stage2_0 : Fin 1 → Memref sig .tc .vmem S64x7500 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S7500x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S512x60 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x60 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S64x60 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
-- ==== KernelIdeal.lean ====
variable {F : FTy → Type} [FloatOps F] [Named F]
def κ : String → Option EReal := fun
  | "third" => some ((1 / 3 : ℝ) : EReal)
  | _ => none
-- ==== ReferenceIdeal.lean ====
abbrev S64x300x25x3 : Shape := ⟨4, ![64, 300, 25, 3]⟩
abbrev S25x25 : Shape := ⟨2, ![25, 25]⟩
abbrev S3x3x256 : Shape := ⟨3, ![3, 3, 256]⟩
abbrev S3x256 : Shape := ⟨2, ![3, 256]⟩
abbrev S3x256x256 : Shape := ⟨3, ![3, 256, 256]⟩
abbrev S3x256x1 : Shape := ⟨3, ![3, 256, 1]⟩
abbrev S3x1 : Shape := ⟨2, ![3, 1]⟩
abbrev S7500x512 : Shape := ⟨2, ![7500, 512]⟩
abbrev S512 : Shape := ⟨1, ![512]⟩
abbrev S512x60 : Shape := ⟨2, ![512, 60]⟩
abbrev S60 : Shape := ⟨1, ![60]⟩
abbrev S1x3x256 : Shape := ⟨3, ![1, 3, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩
abbrev S1x256x1 : Shape := ⟨3, ![1, 256, 1]⟩
abbrev S256x1 : Shape := ⟨2, ![256, 1]⟩
abbrev S1x1 : Shape := ⟨2, ![1, 1]⟩
abbrev S1 : Shape := ⟨1, ![1]⟩
abbrev S_ : Shape := ⟨0, ![]⟩
abbrev S64x300x3x25 : Shape := ⟨4, ![64, 300, 3, 25]⟩
abbrev S64x300x25x256 : Shape := ⟨4, ![64, 300, 25, 256]⟩
abbrev S1x1x1x256 : Shape := ⟨4, ![1, 1, 1, 256]⟩
abbrev S64x300x256x25 : Shape := ⟨4, ![64, 300, 256, 25]⟩
abbrev S64x300x25x1 : Shape := ⟨4, ![64, 300, 25, 1]⟩
abbrev S1x1x1x1 : Shape := ⟨4, ![1, 1, 1, 1]⟩
abbrev S64x7500 : Shape := ⟨2, ![64, 7500]⟩
abbrev S64x512 : Shape := ⟨2, ![64, 512]⟩
abbrev S1x512 : Shape := ⟨2, ![1, 512]⟩
abbrev S64x60 : Shape := ⟨2, ![64, 60]⟩
abbrev S1x60 : Shape := ⟨2, ![1, 60]⟩

abbrev nBuf : Space → Nat
  | .hbm => 185
  | .vmem => 0
  | .smem => 0
  | _ => 0

abbrev hbmTy0_0 (i : Nat) : BufTy := match i % 128 with
  | 0 => ⟨S64x300x25x3, .f32⟩
  | 1 => ⟨S25x25, .f32⟩
  | 2 => ⟨S3x3x256, .f32⟩
  | 3 => ⟨S3x256, .f32⟩
  | 4 => ⟨S3x256x256, .f32⟩
  | 5 => ⟨S3x256, .f32⟩
  | 6 => ⟨S3x256x1, .f32⟩
  | 7 => ⟨S3x1, .f32⟩
  | 8 => ⟨S7500x512, .f32⟩
  | 9 => ⟨S512, .f32⟩
  | 10 => ⟨S512x60, .f32⟩
  | 11 => ⟨S60, .f32⟩
  | 12 => ⟨S1x3x256, .f32⟩
  | 13 => ⟨S3x256, .f32⟩
  | 14 => ⟨S1x256, .f32⟩
  | 15 => ⟨S256, .f32⟩
  | 16 => ⟨S1x256x256, .f32⟩
  | 17 => ⟨S256x256, .f32⟩
  | 18 => ⟨S1x256, .f32⟩
  | 19 => ⟨S256, .f32⟩
  | 20 => ⟨S1x256x1, .f32⟩
  | 21 => ⟨S256x1, .f32⟩
  | 22 => ⟨S1x1, .f32⟩
  | 23 => ⟨S1, .f32⟩
  | 24 => ⟨S_, .f32⟩
  | 25 => ⟨S64x300x25x3, .f32⟩
  | 26 => ⟨S64x300x25x3, .f32⟩
  | 27 => ⟨S64x300x3x25, .f32⟩
  | 28 => ⟨S64x300x25x3, .f32⟩
  | 29 => ⟨S64x300x25x3, .f32⟩
  | 30 => ⟨S64x300x25x256, .f32⟩
  | 31 => ⟨S1x1x1x256, .f32⟩
  | 32 => ⟨S64x300x25x256, .f32⟩
  | 33 => ⟨S64x300x25x256, .f32⟩
  | 34 => ⟨S_, .f32⟩
  | 35 => ⟨S64x300x25x256, .f32⟩
  | 36 => ⟨S64x300x25x256, .f32⟩
  | 37 => ⟨S_, .f32⟩
  | 38 => ⟨S64x300x25x256, .f32⟩
  | 39 => ⟨S64x300x25x256, .f32⟩
  | 40 => ⟨S64x300x256x25, .f32⟩
  | 41 => ⟨S64x300x25x256, .f32⟩
  | 42 => ⟨S64x300x25x256, .f32⟩
  | 43 => ⟨S64x300x25x256, .f32⟩
  | 44 => ⟨S1x1x1x256, .f32⟩
  | 45 => ⟨S64x300x25x256, .f32⟩
  | 46 => ⟨S64x300x25x256, .f32⟩
  | 47 => ⟨S_, .f32⟩
  | 48 => ⟨S64x300x25x256, .f32⟩
  | 49 => ⟨S64x300x25x256, .f32⟩
  | 50 => ⟨S_, .f32⟩
  | 51 => ⟨S64x300x25x256, .f32⟩
  | 52 => ⟨S64x300x25x256, .f32⟩
  | 53 => ⟨S64x300x256x25, .f32⟩
  | 54 => ⟨S64x300x25x256, .f32⟩
  | 55 => ⟨S64x300x25x256, .f32⟩
  | 56 => ⟨S64x300x25x1, .f32⟩
  | 57 => ⟨S1x1x1x1, .f32⟩
  | 58 => ⟨S64x300x25x1, .f32⟩
  | 59 => ⟨S64x300x25x1, .f32⟩
  | 60 => ⟨S_, .f32⟩
  | 61 => ⟨S64x300x25x1, .f32⟩
  | 62 => ⟨S64x300x25x1, .f32⟩
  | 63 => ⟨S1x3x256, .f32⟩
  | 64 => ⟨S3x256, .f32⟩
  | 65 => ⟨S1x256, .f32⟩
  | 66 => ⟨S256, .f32⟩
  | 67 => ⟨S1x256x256, .f32⟩
  | 68 => ⟨S256x256, .f32⟩
  | 69 => ⟨S1x256, .f32⟩
  | 70 => ⟨S256, .f32⟩
  | 71 => ⟨S1x256x1, .f32⟩
  | 72 => ⟨S256x1, .f32⟩
  | 73 => ⟨S1x1, .f32⟩
  | 74 => ⟨S1, .f32⟩
  | 75 => ⟨S_, .f32⟩
  | 76 => ⟨S64x300x25x3, .f32⟩
  | 77 => ⟨S64x300x25x3, .f32⟩
  | 78 => ⟨S64x300x3x25, .f32⟩
  | 79 => ⟨S64x300x25x3, .f32⟩
  | 80 => ⟨S64x300x25x3, .f32⟩
  | 81 => ⟨S64x300x25x256, .f32⟩
  | 82 => ⟨S1x1x1x256, .f32⟩
  | 83 => ⟨S64x300x25x256, .f32⟩
  | 84 => ⟨S64x300x25x256, .f32⟩
  | 85 => ⟨S_, .f32⟩
  | 86 => ⟨S64x300x25x256, .f32⟩
  | 87 => ⟨S64x300x25x256, .f32⟩
  | 88 => ⟨S_, .f32⟩
  | 89 => ⟨S64x300x25x256, .f32⟩
  | 90 => ⟨S64x300x25x256, .f32⟩
  | 91 => ⟨S64x300x256x25, .f32⟩
  | 92 => ⟨S64x300x25x256, .f32⟩
  | 93 => ⟨S64x300x25x256, .f32⟩
  | 94 => ⟨S64x300x25x256, .f32⟩
  | 95 => ⟨S1x1x1x256, .f32⟩
  | 96 => ⟨S64x300x25x256, .f32⟩
  | 97 => ⟨S64x300x25x256, .f32⟩
  | 98 => ⟨S_, .f32⟩
  | 99 => ⟨S64x300x25x256, .f32⟩
  | 100 => ⟨S64x300x25x256, .f32⟩
  | 101 => ⟨S_, .f32⟩
  | 102 => ⟨S64x300x25x256, .f32⟩
  | 103 => ⟨S64x300x25x256, .f32⟩
  | 104 => ⟨S64x300x256x25, .f32⟩
  | 105 => ⟨S64x300x25x256, .f32⟩
  | 106 => ⟨S64x300x25x256, .f32⟩
  | 107 => ⟨S64x300x25x1, .f32⟩
  | 108 => ⟨S1x1x1x1, .f32⟩
  | 109 => ⟨S64x300x25x1, .f32⟩
  | 110 => ⟨S64x300x25x1, .f32⟩
  | 111 => ⟨S_, .f32⟩
  | 112 => ⟨S64x300x25x1, .f32⟩
  | 113 => ⟨S64x300x25x1, .f32⟩
  | 114 => ⟨S1x3x256, .f32⟩
  | 115 => ⟨S3x256, .f32⟩
  | 116 => ⟨S1x256, .f32⟩
  | 117 => ⟨S256, .f32⟩
  | 118 => ⟨S1x256x256, .f32⟩
  | 119 => ⟨S256x256, .f32⟩
  | 120 => ⟨S1x256, .f32⟩
  | 121 => ⟨S256, .f32⟩
  | 122 => ⟨S1x256x1, .f32⟩
  | 123 => ⟨S256x1, .f32⟩
  | 124 => ⟨S1x1, .f32⟩
  | 125 => ⟨S1, .f32⟩
  | 126 => ⟨S_, .f32⟩
  | 127 => ⟨S64x300x25x3, .f32⟩
  | _ => ⟨S64x300x25x3, .f32⟩

abbrev hbmTy0_1 (i : Nat) : BufTy := match i % 128 with
  | 0 => ⟨S64x300x25x3, .f32⟩
  | 1 => ⟨S64x300x3x25, .f32⟩
  | 2 => ⟨S64x300x25x3, .f32⟩
  | 3 => ⟨S64x300x25x3, .f32⟩
  | 4 => ⟨S64x300x25x256, .f32⟩
  | 5 => ⟨S1x1x1x256, .f32⟩
  | 6 => ⟨S64x300x25x256, .f32⟩
  | 7 => ⟨S64x300x25x256, .f32⟩
  | 8 => ⟨S_, .f32⟩
  | 9 => ⟨S64x300x25x256, .f32⟩
  | 10 => ⟨S64x300x25x256, .f32⟩
  | 11 => ⟨S_, .f32⟩
  | 12 => ⟨S64x300x25x256, .f32⟩
  | 13 => ⟨S64x300x25x256, .f32⟩
  | 14 => ⟨S64x300x256x25, .f32⟩
  | 15 => ⟨S64x300x25x256, .f32⟩
  | 16 => ⟨S64x300x25x256, .f32⟩
  | 17 => ⟨S64x300x25x256, .f32⟩
  | 18 => ⟨S1x1x1x256, .f32⟩
  | 19 => ⟨S64x300x25x256, .f32⟩
  | 20 => ⟨S64x300x25x256, .f32⟩
  | 21 => ⟨S_, .f32⟩
  | 22 => ⟨S64x300x25x256, .f32⟩
  | 23 => ⟨S64x300x25x256, .f32⟩
  | 24 => ⟨S_, .f32⟩
  | 25 => ⟨S64x300x25x256, .f32⟩
  | 26 => ⟨S64x300x25x256, .f32⟩
  | 27 => ⟨S64x300x256x25, .f32⟩
  | 28 => ⟨S64x300x25x256, .f32⟩
  | 29 => ⟨S64x300x25x256, .f32⟩
  | 30 => ⟨S64x300x25x1, .f32⟩
  | 31 => ⟨S1x1x1x1, .f32⟩
  | 32 => ⟨S64x300x25x1, .f32⟩
  | 33 => ⟨S64x300x25x1, .f32⟩
  | 34 => ⟨S_, .f32⟩
  | 35 => ⟨S64x300x25x1, .f32⟩
  | 36 => ⟨S64x300x25x1, .f32⟩
  | 37 => ⟨S_, .f32⟩
  | 38 => ⟨S64x300x25x1, .f32⟩
  | 39 => ⟨S64x300x25x1, .f32⟩
  | 40 => ⟨S64x300x25x1, .f32⟩
  | 41 => ⟨S64x300x25x1, .f32⟩
  | 42 => ⟨S_, .f32⟩
  | 43 => ⟨S64x300x25x1, .f32⟩
  | 44 => ⟨S64x300x25x1, .f32⟩
  | 45 => ⟨S64x7500, .f32⟩
  | 46 => ⟨S64x512, .f32⟩
  | 47 => ⟨S1x512, .f32⟩
  | 48 => ⟨S64x512, .f32⟩
  | 49 => ⟨S64x512, .f32⟩
  | 50 => ⟨S_, .f32⟩
  | 51 => ⟨S64x512, .f32⟩
  | 52 => ⟨S64x512, .f32⟩
  | 53 => ⟨S64x60, .f32⟩
  | 54 => ⟨S1x60, .f32⟩
  | 55 => ⟨S64x60, .f32⟩
  | 56 => ⟨S64x60, .f32⟩
  | _ => ⟨S64x300x25x3, .f32⟩

abbrev hbmTy (i : Nat) : BufTy := match i / 128 with
  | 0 => hbmTy0_0 i
  | 1 => hbmTy0_1 i
  | _ => ⟨S64x300x25x3, .f32⟩

abbrev bufTy : (tb : Table) → Fin (tcTables nBuf tb) → BufTy
  | .hbm, ⟨i, _⟩ => hbmTy i
  | _, _ => ⟨S64x300x25x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_cst : Ref sig .tc := ⟨.hbm, 47, rfl⟩
abbrev main_call1_v0 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call2_cst : Ref sig .tc := ⟨.hbm, 60, rfl⟩
abbrev main_call2_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_2 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call3_cst : Ref sig .tc := ⟨.hbm, 85, rfl⟩
abbrev main_call3_v0 : Ref sig .tc := ⟨.hbm, 86, rfl⟩
abbrev main_v63 : Ref sig .tc := ⟨.hbm, 87, rfl⟩
abbrev main_cst_3 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_call4_cst : Ref sig .tc := ⟨.hbm, 98, rfl⟩
abbrev main_call4_v0 : Ref sig .tc := ⟨.hbm, 99, rfl⟩
abbrev main_v73 : Ref sig .tc := ⟨.hbm, 100, rfl⟩
abbrev main_cst_4 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_call5_cst : Ref sig .tc := ⟨.hbm, 111, rfl⟩
abbrev main_call5_v0 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_5 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_call6_cst : Ref sig .tc := ⟨.hbm, 136, rfl⟩
abbrev main_call6_v0 : Ref sig .tc := ⟨.hbm, 137, rfl⟩
abbrev main_v105 : Ref sig .tc := ⟨.hbm, 138, rfl⟩
abbrev main_cst_6 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_call7_cst : Ref sig .tc := ⟨.hbm, 149, rfl⟩
abbrev main_call7_v0 : Ref sig .tc := ⟨.hbm, 150, rfl⟩
abbrev main_v115 : Ref sig .tc := ⟨.hbm, 151, rfl⟩
abbrev main_cst_7 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_call8_cst : Ref sig .tc := ⟨.hbm, 162, rfl⟩
abbrev main_call8_v0 : Ref sig .tc := ⟨.hbm, 163, rfl⟩
abbrev main_v125 : Ref sig .tc := ⟨.hbm, 164, rfl⟩
abbrev main_cst_8 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_9 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_call9_cst : Ref sig .tc := ⟨.hbm, 178, rfl⟩
abbrev main_call9_v0 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩

abbrev nD : Nat := 1
abbrev τ : Topo := Topo.v7x

variable {F : FTy → Type} [FloatOps F]
-- ==== Proof.Segments.lean ====
/-
  Three pipelines in a row whose second reads an array that the first leaves only partly determined. The library's launch
  takes its regions' proof data before the run; here the second region's data depend on contents that only the run decides.
  So a region is read as a HOST SEGMENT (`regionHost`) that carries its own pipeline's ghost state in its precondition, and a
  family of such segments over the contents it may be entered with is one segment (`someHost`). Nothing here is about
  this kernel.
-/
module

public import Idealize.ShloMosaic.Lib.Pipeline.RegionArraysF
public import Idealize.ShloMosaic.Lib.Pipeline.DatRel
public import Idealize.ShloMosaic.Lib.Pipeline.ArrRel
public import Idealize.ShloMosaic.Lib.Tactic

@[expose] public section

noncomputable section

namespace Cert.Segments

open Idealize.ShloMosaic Idealize.ShloMosaic.TcCoe
open Idealize.SL Idealize.SL.RA
open Idealize.SL.BI (sProp bigSep bigSep_congr)
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} [∀ e, Nonempty (Val e)]
variable {Ix : Type} [DecidableEq Ix] {U : Type} [URA U] {Lvl : Type} [Preorder Lvl]

local notation "𝕄" => MT nD τ sig Ix Val ℕ U Lvl

variable {Λ₀ : Labels} {P : Type} [Fintype P]

/-- What a core owes the others: nothing, whatever its waits recorded. -/
abbrev noDebt (c : Dev nD) : sProp 𝕄 := iprop(∃ Wd, owes (c : Thread nD τ) (0 : CellTallies nD τ sig Ix) Wd)

/-- The arrays after some write-backs, each at contents it may hold then, are all of them at some such contents. -/
theorem arraysAt_some {cfg : Cfg sig Λ₀} {c : Dev nD} (rd : RDat τ Val Ix ℕ U Lvl cfg c) (n : Nat) :
    (rd.arraysAt n : sProp 𝕄) ⊢ iprop(∃ A : (w : Fin cfg.W) → Buf Val ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

variable (pcs : P → PCfg sig Λ₀ Val) (a : (p : P) → (pcs p).Adm)
  (pdats : (p : P) → (c : Dev nD) → Dat τ Val Ix ℕ U Lvl (pin pcs a p) c) (ι : Ix)
  (defs₀ : Defs nD τ sig Val Λ₀) (𝒱₀ : Variants)
  (L : GSem nD τ sig → Finset Ix) (lv : GSem nD τ sig → Ix → Lvl)
  (fg : (q : P) → Fin (pin pcs a q).W → Bool)
  (Rl : (q : P) → Dev nD → (w : Fin (pin pcs a q).W) → Fin (pin pcs a q).N → (((pin pcs a q).win w).block.Idx → Val ((pin pcs a q).win w).elt) → Prop)

/-- The family of proof data with the marked windows held to `Rl`. -/
abbrev relOf : (q : P) → (c : Dev nD) → RDat τ Val Ix ℕ U Lvl (pin pcs a q) c := fun q c => (pdats q c).toRRel (fg q) (Rl q c)

/-- A region entered with every unscoped buffer held at `W c`, and left with them held at some `V'` that meets `next c`. -/
def regionRel (p : P) (kit : PLaunchFacts (nD := nD) (τ := τ) pcs p) (hK : (pcs p).pre.K = 0)
    (hbody : ∀ c, BodyObligationRel (pdats p c) defs₀ 𝒱₀ ι Set.univ (fg p) (Rl p c))
    (howed : ∀ c t, (pdats p c).owed t = 0) (hrec : ∀ c, (pdats p c).recorded 0 = Set.univ)
    (hshare : ∀ c w, (pdats p c).share w = fullShare)
    (hΦ : ∀ c t, (pdats p c).Φ t = scopedRest (pin pcs a p).spec c)
    (W : Dev nD → Valuation τ sig Val)
    (hW : ∀ c w, (pdats p c).A w = W c (Proc.devRef .tc (arrRef (pin pcs a p).spec w)))
    (hu : arrRefs (τ := τ) (pin pcs a p).spec ⊆ ucRefs τ sig)
    (next : Dev nD → Valuation τ sig Val → Prop)
    (hnext : ∀ c (A : (w : Fin (pin pcs a p).W) → Buf Val (((pin pcs a p).win w).arr.view.loc (c.tc : Thread nD τ))),
      (∀ w, (relOf pcs a pdats fg Rl p c).ArrAt w (pin pcs a p).N (A w)) →
      ∃ V', next c V' ∧ (∀ w, A w = V' (Proc.devRef .tc (arrRef (pin pcs a p).spec w)))
        ∧ ∀ d ∈ ucRefs τ sig \ arrRefs (pin pcs a p).spec, V' d = W c d)
    (Er : Dev nD → sProp 𝕄) :
    RDat.RegionSeg pcs a (relOf pcs a pdats fg Rl) ι defs₀ 𝒱₀ L lv p where
  win := kit.to₀.win
  block_pos := kit.to₀.block_pos
  stage_whole := kit.to₀.stage_whole
  K := PEmpty
  osem k := k.elim
  ho := OwnSemFacts.none _
  hbody c := (hbody c).toRRel
  hwaits := RDat.hwaits_of_owed_zero pcs a (relOf pcs a pdats fg Rl) ι L lv p howed
  pre c := iprop(StableHlo.held (c.tc : Thread nD τ) (ucRefs τ sig) (W c) ∗ noDebt c ∗ Er c)
  post c := iprop(∃ V', ⌜next c V'⌝ ∗ StableHlo.held (c.tc : Thread nD τ) (ucRefs τ sig) V' ∗ noDebt c ∗ Er c)
  X c := iprop(emp)
  Y c := iprop(emp)
  Z c := iprop(StableHlo.held (c.tc : Thread nD τ) (ucRefs τ sig \ arrRefs (pin pcs a p).spec) (W c) ∗ Er c)
  hentry c := by
    show _ ⊢ |={Set.univ}=> iprop((pdats p c).arrays (pdats p c).A ∗ prefHeld (pcs p).pre c (fun _ => fullShare) (a p).1
        ∗ (pdats p c).owesAt ι 0 ∗ _ ∗ _)
    rw [prefHeld_of_none _ hK, arrays_held pcs a pdats p kit c (hshare c) (pdats p c).A (W c) (hW c),
      StableHlo.held_sub_split (c.tc : Thread nD τ) hu (W c)]
    iintro ⟨⟨⟨Ha, Hr⟩, HO, Hx⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitr; · iempintro
    isplitl [Hr]; · iexact Hr
    iexact Hx
  hin c := by
    show _ ⊢ (pdats p c).Φ 0
    rw [hΦ c 0]
    iintro ⟨-, -, Hr⟩
    iexact Hr
  hout c := by
    show (pdats p c).Φ (Fin.last (pin pcs a p).N) ⊢ _
    rw [hΦ c, ownSems0_none]
    iintro Hr
    isplitr; · iempintro
    isplitr; · iempintro
    iexact Hr
  hexit c := by
    show iprop((relOf pcs a pdats fg Rl p c).arraysAt (pin pcs a p).N ∗ (pdats p c).owesAt ι (Fin.last (pin pcs a p).N) ∗ _ ∗ _) ⊢ _
    iintro ⟨Ha, HO, -, Hr, Hx⟩
    ihave Ha := (arraysAt_some (relOf pcs a pdats fg Rl p c) (pin pcs a p).N) $$ Ha
    icases Ha with ⟨%A, %hA, Ha⟩
    obtain ⟨V', hn, hA', hV'⟩ := hnext c A hA
    imodintro
    iexists V'
    isplitr; · ipureintro; exact hn
    rw [StableHlo.held_sub_split (c.tc : Thread nD τ) hu V',
      StableHlo.held_congr (c.tc : Thread nD τ) (S := ucRefs τ sig \ arrRefs (pin pcs a p).spec) hV',
      ← arrays_held pcs a pdats p kit c (hshare c) A V' hA',
      show ((pdats p c).arrays A : sProp 𝕄) = (relOf pcs a pdats fg Rl p c).arrays A from rfl]
    isplitl [Ha Hr]
    · isplitl [Ha]; · iexact Ha
      iexact Hr
    isplitl [HO]
    · unfold Dat.owesAt owesWithin
      rw [howed c (Fin.last _)]
      icases HO with ⟨%Wd, -, HO⟩; iexists Wd; iexact HO
    iexact Hx

/-- The ghost state pipeline `p` runs on, in the copy `EP` of the rounds. -/
abbrev ghostOf (EP : Emb (URounds (GSem nD τ sig) Unit) 𝕄) (p : P) (c : Dev nD) : sProp 𝕄 :=
  iprop(cellsGhost (pin pcs a) EP p c ∗ toksInit (pin pcs a) EP p c)

/-- A region as a host segment that brings its pipeline's ghost state with it. -/
def regionHost (rdats : (p : P) → (c : Dev nD) → RDat τ Val Ix ℕ U Lvl (pin pcs a p) c)
    (phinj : Function.Injective (cellOf (nD := nD) (τ := τ) (pin pcs a)))
    (EP : Emb (URounds (GSem nD τ sig) Unit) 𝕄) [EP.LandsIn (upEmb : UEmb _ 𝕄)]
    {p : P} (R : RDat.RegionSeg pcs a rdats ι defs₀ 𝒱₀ L lv p) :
    HostSeg (Name := ℕ) (U := U) pcs defs₀ 𝒱₀ L lv where
  prog := Prog.lift (.customCall (entry p) ())
  pre c := iprop(R.pre c ∗ ghostOf pcs a EP p c)
  post c := R.post c
  run c β k K := by
    refine Entails.trans ?_ (RDat.RegionSeg.wp pcs a rdats ι phinj EP defs₀ 𝒱₀ L lv R c none (fun _ h => nomatch h) k K)
    iintro ⟨Hk, Hb, ⟨Hp, Hc, Ht⟩, Hl⟩
    isplitl [Hk]; · iexact Hk
    isplitl [Hb]; · iexact Hb
    isplitl [Hp]; · iexact Hp
    isplitl [Hl]; · iexact Hl
    isplitl [Hc]; · iexact Hc
    iexact Ht

/-- Segments with one program, as one: entered at some index that meets `sel`, left at it. -/
def someHost {X : Type} (sel : X → Dev nD → Prop) (H : X → HostSeg (Name := ℕ) (U := U) pcs defs₀ 𝒱₀ L lv)
    (prog : Prog (TpuEff nD τ sig Val (Sig Λ₀ P fun p => (pcs p).Adm) .tc) PUnit) (hprog : ∀ x, (H x).prog = prog) :
    HostSeg (Name := ℕ) (U := U) pcs defs₀ 𝒱₀ L lv where
  prog := prog
  pre c := iprop(∃ x, ⌜sel x c⌝ ∗ (H x).pre c)
  post c := iprop(∃ x, ⌜sel x c⌝ ∗ (H x).post c)
  run c β k K := by
    iintro ⟨Hk, Hb, ⟨%x, %hx, Hp⟩, Hl⟩
    rw [← hprog x]
    iapply ((H x).run c k K)
    isplitl [Hk]
    · iintro ⟨Hb, Hp⟩
      iapply Hk
      isplitl [Hb]; · iexact Hb
      iexists x
      isplitr; · ipureintro; exact hx
      iexact Hp
    isplitl [Hb]; · iexact Hb
    isplitl [Hp]; · iexact Hp
    iexact Hl

end Cert.Segments

end
-- ==== Proof.Finite.lean ====
/-
  The precondition reads, at every array the network's first part takes, that each entry less itself is zero: each entry is real.
-/
module

public import proofs.«01_k».proof.Pre_finite
public import Idealize.ShloMosaic.Lib.ReduceAll
public import Idealize.ShloMosaic.Lib.Affine
public import Idealize.ShloMosaic.PureOps.Ideal.Laws

@[expose] public section

noncomputable section

namespace Cert.Pre_finite.Hand

open Cert.Pre_finite
open Idealize.ShloMosaic

/-- The side conditions the precondition states. -/
theorem facts : Cert.Pre_finite.Facts where
  bcast_S_S64x300x25x3 := by decide
  reducesTo_S64x300x25x3_S_d0_1_2_3 := by decide
  h_S_ := by decide
  bcast_S_S25x25 := by decide
  reducesTo_S25x25_S_d0_1 := by decide
  bcast_S_S3x3x256 := by decide
  reducesTo_S3x3x256_S_d0_1_2 := by decide
  bcast_S_S3x256 := by decide
  reducesTo_S3x256_S_d0_1 := by decide
  bcast_S_S3x256x256 := by decide
  reducesTo_S3x256x256_S_d0_1_2 := by decide
  bcast_S_S3x256x1 := by decide
  reducesTo_S3x256x1_S_d0_1_2 := by decide

/-- An extended real less itself is zero only at a real: an infinity less itself is the bottom. -/
theorem real_of_sub_self {x : EReal} (h : x - x = 0) : ∃ r : ℝ, x = r := by
  induction x with
  | bot => exact absurd h (by simp)
  | top => exact absurd h (by simp)
  | coe r => exact ⟨r, rfl⟩

/-- The one index of a scalar. -/
abbrev i0 : S_.Idx := fun d => d.elim0

/-- One array's part of the precondition: every entry is real. -/
theorem real_of_all {S : Shape} (x : FVec Ideal S .f32) (hb : S_.BroadcastsInDim S (![] : Fin 0 → Fin S.rank)) {axes : List (Fin S.rank)}
    (hr : S.ReducesTo axes S_) (hs : 0 < S_.numel)
    (h : Host.reduce IntOp.andi (cmpf .oeq (subf x x) (broadcastInDim S ![] hb (constant (F := Ideal) S_ .f32 0x00000000#32))) (constantI S_ 1 1#1) hr hs i0 = 1#1)
    (i : S.Idx) : ∃ r : ℝ, (x i : EReal) = r := by
  have h1 := Host.reduce_andi_all _ _ hr hs i0 h i
  have h2 : BitVec.ofBool (decide ((x i : EReal) - x i = Ideal.ofBits .f32 0x00000000#32)) = 1#1 := h1
  refine real_of_sub_self ?_
  by_contra hne
  have h0 : Ideal.ofBits .f32 0x00000000#32 = (0 : EReal) := Ideal.ofBits_zero_f32
  rw [h0, decide_eq_false hne] at h2
  exact absurd h2 (by decide)

/-- The precondition as it prints: the arrays the network's first part takes hold reals. -/
theorem finite [Cert.Pre_finite.Facts] (x0 : FVec Ideal S64x300x25x3 .f32) (x1 : FVec Ideal S25x25 .f32) (x2 : FVec Ideal S3x3x256 .f32)
    (x3 : FVec Ideal S3x256 .f32) (x4 : FVec Ideal S3x256x256 .f32) (x5 : FVec Ideal S3x256 .f32) (x6 : FVec Ideal S3x256x1 .f32)
    (x7 : FVec Ideal S3x1 .f32) (x8 : FVec Ideal S7500x512 .f32) (x9 : FVec Ideal S512 .f32) (x10 : FVec Ideal S512x60 .f32) (x11 : FVec Ideal S60 .f32)
    (h : fn (F := Ideal) x0 x1 x2 x3 x4 x5 x6 x7 x8 x9 x10 x11 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r)
      ∧ (∀ i, ∃ r : ℝ, (x4 i : EReal) = r) ∧ (∀ i, ∃ r : ℝ, (x5 i : EReal) = r) ∧ (∀ i, ∃ r : ℝ, (x6 i : EReal) = r) := by
  have h6 := IntOp.andi_eq_one.1 (congrFun h i0)
  have h5 := IntOp.andi_eq_one.1 h6.1
  have h4 := IntOp.andi_eq_one.1 h5.1
  have h3 := IntOp.andi_eq_one.1 h4.1
  have h2 := IntOp.andi_eq_one.1 h3.1
  have h1 := IntOp.andi_eq_one.1 h2.1
  exact ⟨real_of_all x0 _ _ _ h1.1, real_of_all x1 _ _ _ h1.2, real_of_all x2 _ _ _ h2.2, real_of_all x3 _ _ _ h3.2, real_of_all x4 _ _ _ h4.2,
    real_of_all x5 _ _ _ h5.2, real_of_all x6 _ _ _ h6.2⟩

end Cert.Pre_finite.Hand

end

end
-- ==== Proof.Gin.lean ====
/-
  The network's node values over the extended reals, written once as the kernel computes them and once as the reference does,
  and their equality where the features, the adjacency and the weights are real.
-/
module

public import Idealize.ShloMosaic.PureOps.Ideal

@[expose] public section

noncomputable section

namespace Cert.Gin

open scoped BigOperators

/-- Aggregation over the nodes as the kernel does it: one matrix product. -/
def aggK {K : ℕ} (M : Fin 25 → Fin 25 → EReal) (h : Fin 25 → Fin K → EReal) (u : Fin 25) (k : Fin K) : EReal := ∑ v, M u v * h v k

/-- Aggregation as the reference does it: the node itself and the product with the adjacency. -/
def aggR {K : ℕ} (A : Fin 25 → Fin 25 → EReal) (h : Fin 25 → Fin K → EReal) (u : Fin 25) (k : Fin K) : EReal := 1 * h u k + ∑ v, h v k * A u v

/-- A layer on aggregated values: weights, bias, rectifier. -/
def layer {K N : ℕ} (a : Fin 25 → Fin K → EReal) (W : Fin K → Fin N → EReal) (b : Fin N → EReal) (u : Fin 25) (j : Fin N) : EReal :=
  max ((∑ k, a u k * W k j) + b j) 0

/-- A stack before its last bias, as the kernel computes it: the last weights come before the last aggregation. -/
def towerK (M : Fin 25 → Fin 25 → EReal) (X : Fin 25 → Fin 3 → EReal) (W0 : Fin 3 → Fin 256 → EReal) (b0 : Fin 256 → EReal)
    (W1 : Fin 256 → Fin 256 → EReal) (b1 : Fin 256 → EReal) (W2 : Fin 256 → EReal) (u : Fin 25) : EReal :=
  ∑ v, M u v * ∑ k, layer (aggK M (layer (aggK M X) W0 b0)) W1 b1 v k * W2 k

/-- A stack before its last bias, as the reference computes it. -/
def towerR (A : Fin 25 → Fin 25 → EReal) (X : Fin 25 → Fin 3 → EReal) (W0 : Fin 3 → Fin 256 → EReal) (b0 : Fin 256 → EReal)
    (W1 : Fin 256 → Fin 256 → EReal) (b1 : Fin 256 → EReal) (W2 : Fin 256 → EReal) (u : Fin 25) : EReal :=
  ∑ k, aggR A (layer (aggR A (layer (aggR A X) W0 b0)) W1 b1) u k * W2 k

theorem towerR_congr {A : Fin 25 → Fin 25 → EReal} {X : Fin 25 → Fin 3 → EReal} {W0 W0' : Fin 3 → Fin 256 → EReal} {b0 b0' : Fin 256 → EReal}
    {W1 W1' : Fin 256 → Fin 256 → EReal} {b1 b1' : Fin 256 → EReal} {W2 W2' : Fin 256 → EReal} {u : Fin 25}
    (h0 : ∀ k j, W0 k j = W0' k j) (g0 : ∀ j, b0 j = b0' j) (h1 : ∀ k j, W1 k j = W1' k j) (g1 : ∀ j, b1 j = b1' j) (h2 : ∀ k, W2 k = W2' k) :
    towerR A X W0 b0 W1 b1 W2 u = towerR A X W0' b0' W1' b1' W2' u := by
  rw [show W0 = W0' from funext fun k => funext (h0 k), show b0 = b0' from funext g0, show W1 = W1' from funext fun k => funext (h1 k),
    show b1 = b1' from funext g1, show W2 = W2' from funext h2]

/-- The mean of the three stacks' outputs, as the kernel computes it. -/
def meanK (M : Fin 25 → Fin 25 → EReal) (X : Fin 25 → Fin 3 → EReal) (W0 : Fin 3 → Fin 3 → Fin 256 → EReal) (b0 : Fin 3 → Fin 256 → EReal)
    (W1 : Fin 3 → Fin 256 → Fin 256 → EReal) (b1 : Fin 3 → Fin 256 → EReal) (W2 : Fin 3 → Fin 256 → EReal) (b2 : Fin 3 → EReal) (u : Fin 25) : EReal :=
  (max (towerK M X (W0 0) (b0 0) (W1 0) (b1 0) (W2 0) u + b2 0) 0 + max (towerK M X (W0 1) (b0 1) (W1 1) (b1 1) (W2 1) u + b2 1) 0
    + max (towerK M X (W0 2) (b0 2) (W1 2) (b1 2) (W2 2) u + b2 2) 0) * ((1 / 3 : ℝ) : EReal)

/-- The mean of the three stacks' outputs over the reference's stacks. -/
def meanR (A : Fin 25 → Fin 25 → EReal) (X : Fin 25 → Fin 3 → EReal) (W0 : Fin 3 → Fin 3 → Fin 256 → EReal) (b0 : Fin 3 → Fin 256 → EReal)
    (W1 : Fin 3 → Fin 256 → Fin 256 → EReal) (b1 : Fin 3 → Fin 256 → EReal) (W2 : Fin 3 → Fin 256 → EReal) (b2 : Fin 3 → EReal) (u : Fin 25) : EReal :=
  (max (towerR A X (W0 0) (b0 0) (W1 0) (b1 0) (W2 0) u + b2 0) 0 + max (towerR A X (W0 1) (b0 1) (W1 1) (b1 1) (W2 1) u + b2 1) 0
    + max (towerR A X (W0 2) (b0 2) (W1 2) (b1 2) (W2 2) u + b2 2) 0) * ((1 / 3 : ℝ) : EReal)

/-- The head: two linear layers over the flattened nodes, a rectifier between them. -/
def logit (pool : Fin 7500 → EReal) (Wf0 : Fin 7500 → Fin 512 → EReal) (bf0 : Fin 512 → EReal) (Wf1 : Fin 512 → Fin 60 → EReal)
    (bf1 : Fin 60 → EReal) (j : Fin 60) : EReal :=
  (∑ h, max ((∑ r, pool r * Wf0 r h) + bf0 h) 0 * Wf1 h j) + bf1 j

/-- Pooled values agreeing at every node of every frame are the same. -/
theorem pool_ext {pool pool' : Fin 7500 → EReal}
    (h : ∀ (t : Fin 300) (u : Fin 25), pool ⟨25 * t.val + u.val, by omega⟩ = pool' ⟨25 * t.val + u.val, by omega⟩) : pool = pool' := by
  funext r
  have e : r = ⟨25 * (⟨r.val / 25, by omega⟩ : Fin 300).val + (⟨r.val % 25, by omega⟩ : Fin 25).val, by show 25 * (r.val / 25) + r.val % 25 < 7500; omega⟩ :=
    Fin.ext (by show r.val = 25 * (r.val / 25) + r.val % 25; omega)
  rw [e]
  exact h _ _

/-- The adjacency with the identity added. -/
def hat (A : Fin 25 → Fin 25 → EReal) (u v : Fin 25) : EReal := A u v + if u = v then 1 else 0

theorem coe_sum {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

theorem hat_coe (A : Fin 25 → Fin 25 → ℝ) (u v : Fin 25) :
    hat (fun u v => (A u v : EReal)) u v = ((A u v + if u = v then 1 else 0 : ℝ) : EReal) := by
  unfold hat
  split <;> simp

/-- On real values the two aggregations agree, -/
theorem aggK_hat {K : ℕ} (A : Fin 25 → Fin 25 → ℝ) (h : Fin 25 → Fin K → ℝ) :
    aggK (hat fun u v => (A u v : EReal)) (fun v k => (h v k : EReal)) = aggR (fun u v => (A u v : EReal)) (fun v k => (h v k : EReal)) := by
  funext u k
  unfold aggK aggR
  simp only [hat_coe, ← EReal.coe_mul, coe_sum, ← EReal.coe_add, one_mul]
  congr 1
  simp only [add_mul, Finset.sum_add_distrib, ite_mul, one_mul, zero_mul, Finset.sum_ite_eq, Finset.mem_univ, if_true]
  rw [add_comm]
  exact congrArg _ (Finset.sum_congr rfl fun v _ => mul_comm _ _)

/-- and are real; -/
theorem aggR_real {K : ℕ} (A : Fin 25 → Fin 25 → ℝ) (h : Fin 25 → Fin K → ℝ) :
    ∃ g : Fin 25 → Fin K → ℝ, aggR (fun u v => (A u v : EReal)) (fun v k => (h v k : EReal)) = fun u k => (g u k : EReal) :=
  ⟨fun u k => h u k + ∑ v, h v k * A u v, by
    funext u k
    unfold aggR
    simp only [← EReal.coe_mul, coe_sum, ← EReal.coe_add, one_mul]⟩

/-- a layer of real values is real; -/
theorem layer_real {K N : ℕ} (a : Fin 25 → Fin K → ℝ) (W : Fin K → Fin N → ℝ) (b : Fin N → ℝ) :
    ∃ g : Fin 25 → Fin N → ℝ, layer (fun u k => (a u k : EReal)) (fun k j => (W k j : EReal)) (fun j => (b j : EReal)) = fun u j => (g u j : EReal) :=
  ⟨fun u j => max ((∑ k, a u k * W k j) + b j) 0, by
    funext u j
    unfold layer
    simp only [← EReal.coe_mul, coe_sum, ← EReal.coe_add, ← EReal.coe_zero]
    exact (EReal.coe_strictMono.monotone.map_max).symm⟩

/-- so the last weights may come before the last aggregation. -/
theorem tower_eq (A : Fin 25 → Fin 25 → ℝ) (X : Fin 25 → Fin 3 → ℝ) (W0 : Fin 3 → Fin 256 → ℝ) (b0 : Fin 256 → ℝ)
    (W1 : Fin 256 → Fin 256 → ℝ) (b1 : Fin 256 → ℝ) (W2 : Fin 256 → ℝ) (u : Fin 25) :
    towerK (hat fun u v => (A u v : EReal)) (fun u k => (X u k : EReal)) (fun k j => (W0 k j : EReal)) (fun j => (b0 j : EReal))
        (fun k j => (W1 k j : EReal)) (fun j => (b1 j : EReal)) (fun k => (W2 k : EReal)) u
      = towerR (fun u v => (A u v : EReal)) (fun u k => (X u k : EReal)) (fun k j => (W0 k j : EReal)) (fun j => (b0 j : EReal))
        (fun k j => (W1 k j : EReal)) (fun j => (b1 j : EReal)) (fun k => (W2 k : EReal)) u := by
  unfold towerK towerR
  rw [aggK_hat]
  obtain ⟨g0, h0⟩ := aggR_real A X
  rw [h0]
  obtain ⟨g1, h1⟩ := layer_real g0 W0 b0
  rw [h1, aggK_hat]
  obtain ⟨g2, h2⟩ := aggR_real A g1
  rw [h2]
  obtain ⟨g3, h3⟩ := layer_real g2 W1 b1
  rw [h3, ← aggK_hat]
  unfold aggK
  simp only [hat_coe, ← EReal.coe_mul, coe_sum]
  congr 1
  simp only [Finset.mul_sum, Finset.sum_mul]
  rw [Finset.sum_comm]
  exact Finset.sum_congr rfl fun k _ => Finset.sum_congr rfl fun v _ => (mul_assoc _ _ _).symm

/-- The kernel's mean is the reference's where all but the last bias is real. -/
theorem mean_eq (A : Fin 25 → Fin 25 → EReal) (X : Fin 25 → Fin 3 → EReal) (W0 : Fin 3 → Fin 3 → Fin 256 → EReal) (b0 : Fin 3 → Fin 256 → EReal)
    (W1 : Fin 3 → Fin 256 → Fin 256 → EReal) (b1 : Fin 3 → Fin 256 → EReal) (W2 : Fin 3 → Fin 256 → EReal) (b2 : Fin 3 → EReal) (u : Fin 25)
    (hA : ∀ u v, ∃ r : ℝ, A u v = r) (hX : ∀ u k, ∃ r : ℝ, X u k = r) (hW0 : ∀ s k j, ∃ r : ℝ, W0 s k j = r) (hb0 : ∀ s j, ∃ r : ℝ, b0 s j = r)
    (hW1 : ∀ s k j, ∃ r : ℝ, W1 s k j = r) (hb1 : ∀ s j, ∃ r : ℝ, b1 s j = r) (hW2 : ∀ s k, ∃ r : ℝ, W2 s k = r) :
    meanK (hat A) X W0 b0 W1 b1 W2 b2 u = meanR A X W0 b0 W1 b1 W2 b2 u := by
  choose A' hA using hA
  choose X' hX using hX
  choose W0' hW0 using hW0
  choose b0' hb0 using hb0
  choose W1' hW1 using hW1
  choose b1' hb1 using hb1
  choose W2' hW2 using hW2
  have eA : A = fun u v => (A' u v : EReal) := funext fun u => funext fun v => hA u v
  have eX : X = fun u k => (X' u k : EReal) := funext fun u => funext fun k => hX u k
  have h (s : Fin 3) : towerK (hat A) X (W0 s) (b0 s) (W1 s) (b1 s) (W2 s) u = towerR A X (W0 s) (b0 s) (W1 s) (b1 s) (W2 s) u := by
    rw [eA, eX, show W0 s = fun k j => (W0' s k j : EReal) from funext fun k => funext fun j => hW0 s k j,
      show b0 s = fun j => (b0' s j : EReal) from funext fun j => hb0 s j,
      show W1 s = fun k j => (W1' s k j : EReal) from funext fun k => funext fun j => hW1 s k j,
      show b1 s = fun j => (b1' s j : EReal) from funext fun j => hb1 s j,
      show W2 s = fun k => (W2' s k : EReal) from funext fun k => hW2 s k]
    exact tower_eq A' X' (W0' s) (b0' s) (W1' s) (b1' s) (W2' s) u
  unfold meanK meanR
  rw [h 0, h 1, h 2]

end Cert.Gin
-- ==== Proof.RefVal.lean ====
/-
  The reference's value at an index: the mean of three graph streams at each node, then the two-layer head.
-/
module

public import proofs.«01_k».proof.Proof.Gen.ReferenceIdeal.Read
public import proofs.«01_k».proof.Proof.Gin
public import Idealize.ShloMosaic.Lib.Pointwise

@[expose] public section

set_option maxRecDepth 16384

noncomputable section

namespace Cert.ReferenceIdeal.Hand

open Cert.ReferenceIdeal Cert.ReferenceIdeal.Gen Cert.ReferenceIdeal.Read Cert.Gin
open Idealize.ShloMosaic Idealize.ShloMosaic.TcCoe

/-- One aggregation over three channels, as the reference writes it. -/
def agg3 (h : FVec Ideal S64x300x25x3 .f32) (A : FVec Ideal S25x25 .f32) : FVec Ideal S64x300x25x3 .f32 :=
  addf (mulf (broadcastInDim S64x300x25x3 ![] bcast_S_S64x300x25x3 (constant S_ .f32 0x3F800000#32)) h)
    (transpose S64x300x25x3 [0, 1, 3, 2] (Host.dotGeneral dot_S64x300x25x3_S25x25_S64x300x3x25_2_1_013_0_n_n none h A) transposes_S64x300x3x25_S64x300x25x3_0_1_3_2)

/-- One aggregation over the 256 hidden channels. -/
def agg256 (h : FVec Ideal S64x300x25x256 .f32) (A : FVec Ideal S25x25 .f32) : FVec Ideal S64x300x25x256 .f32 :=
  addf (mulf (broadcastInDim S64x300x25x256 ![] bcast_S_S64x300x25x256 (constant S_ .f32 0x3F800000#32)) h)
    (transpose S64x300x25x256 [0, 1, 3, 2] (Host.dotGeneral dot_S64x300x25x256_S25x25_S64x300x256x25_2_1_013_0_n_n none h A) transposes_S64x300x256x25_S64x300x25x256_0_1_3_2)

/-- Bias and rectification over the hidden channels. -/
def act256 (x : FVec Ideal S64x300x25x256 .f32) (b : FVec Ideal S256 .f32) : FVec Ideal S64x300x25x256 .f32 :=
  maximumf (addf x (broadcastInDim S64x300x25x256 ![0, 1, 2, 3] bcast_S1x1x1x256_S64x300x25x256_0_1_2_3 (broadcastInDim S1x1x1x256 ![3] bcast_S256_S1x1x1x256_3 b)))
    (broadcastInDim S64x300x25x256 ![] bcast_S_S64x300x25x256 (constant S_ .f32 0x00000000#32))

/-- Bias and rectification of a stream's output. -/
def act1 (x : FVec Ideal S64x300x25x1 .f32) (b : FVec Ideal S1 .f32) : FVec Ideal S64x300x25x1 .f32 :=
  maximumf (addf x (broadcastInDim S64x300x25x1 ![0, 1, 2, 3] bcast_S1x1x1x1_S64x300x25x1_0_1_2_3 (broadcastInDim S1x1x1x1 ![3] bcast_S1_S1x1x1x1_3 b)))
    (broadcastInDim S64x300x25x1 ![] bcast_S_S64x300x25x1 (constant S_ .f32 0x00000000#32))

/-- One stream before its last bias. -/
def stream (X : FVec Ideal S64x300x25x3 .f32) (A : FVec Ideal S25x25 .f32) (W0 : FVec Ideal S3x256 .f32) (b0 : FVec Ideal S256 .f32)
    (W1 : FVec Ideal S256x256 .f32) (b1 : FVec Ideal S256 .f32) (W2 : FVec Ideal S256x1 .f32) : FVec Ideal S64x300x25x1 .f32 :=
  Host.dotGeneral dot_S64x300x25x256_S256x1_S64x300x25x1_3_0_012_1_n_n none
    (agg256 (act256 (Host.dotGeneral dot_S64x300x25x256_S256x256_S64x300x25x256_3_0_012_1_n_n none
      (agg256 (act256 (Host.dotGeneral dot_S64x300x25x3_S3x256_S64x300x25x256_3_0_012_1_n_n none (agg3 X A) W0) b0) A) W1) b1) A) W2

theorem agg3_apply (h : FVec Ideal S64x300x25x3 .f32) (A : FVec Ideal S25x25 .f32) (b : Fin 64) (t : Fin 300) (u : Fin 25) (k : Fin 3) :
    agg3 h A (ix4 b t u k) = aggR (fun u v => A (ix2 u v)) (fun u k => h (ix4 b t u k)) u k := by
  unfold agg3 aggR
  pointwise

theorem agg256_apply (h : FVec Ideal S64x300x25x256 .f32) (A : FVec Ideal S25x25 .f32) (b : Fin 64) (t : Fin 300) (u : Fin 25) (k : Fin 256) :
    agg256 h A (ix4 b t u k) = aggR (fun u v => A (ix2 u v)) (fun u k => h (ix4 b t u k)) u k := by
  unfold agg256 aggR
  pointwise

theorem act256_apply (x : FVec Ideal S64x300x25x256 .f32) (bb : FVec Ideal S256 .f32) (b : Fin 64) (t : Fin 300) (u : Fin 25) (k : Fin 256) :
    act256 x bb (ix4 b t u k) = max (x (ix4 b t u k) + bb (ix1 k)) 0 := by
  unfold act256
  pointwise

theorem act1_apply (x : FVec Ideal S64x300x25x1 .f32) (bb : FVec Ideal S1 .f32) (b : Fin 64) (t : Fin 300) (u : Fin 25) :
    act1 x bb (ix4 b t u 0) = max (x (ix4 b t u 0) + bb (ix1 0)) 0 := by
  unfold act1
  pointwise

theorem dot3_apply (x : FVec Ideal S64x300x25x3 .f32) (W : FVec Ideal S3x256 .f32) (b : Fin 64) (t : Fin 300) (u : Fin 25) (j : Fin 256) :
    Host.dotGeneral dot_S64x300x25x3_S3x256_S64x300x25x256_3_0_012_1_n_n none x W (ix4 b t u j) = ∑ k : Fin 3, x (ix4 b t u k) * W (ix2 k j) := by
  pointwise

theorem dot256_apply (x : FVec Ideal S64x300x25x256 .f32) (W : FVec Ideal S256x256 .f32) (b : Fin 64) (t : Fin 300) (u : Fin 25) (j : Fin 256) :
    Host.dotGeneral dot_S64x300x25x256_S256x256_S64x300x25x256_3_0_012_1_n_n none x W (ix4 b t u j) = ∑ k : Fin 256, x (ix4 b t u k) * W (ix2 k j) := by
  pointwise

theorem dot1_apply (x : FVec Ideal S64x300x25x256 .f32) (W : FVec Ideal S256x1 .f32) (b : Fin 64) (t : Fin 300) (u : Fin 25) :
    Host.dotGeneral dot_S64x300x25x256_S256x1_S64x300x25x1_3_0_012_1_n_n none x W (ix4 b t u 0) = ∑ k : Fin 256, x (ix4 b t u k) * W (ix2 k 0) := by
  pointwise

/-- A stream at a node, in the network's own terms. -/
theorem stream_apply (X : FVec Ideal S64x300x25x3 .f32) (A : FVec Ideal S25x25 .f32) (W0 : FVec Ideal S3x256 .f32) (b0 : FVec Ideal S256 .f32)
    (W1 : FVec Ideal S256x256 .f32) (b1 : FVec Ideal S256 .f32) (W2 : FVec Ideal S256x1 .f32) (b : Fin 64) (t : Fin 300) (u : Fin 25) :
    stream X A W0 b0 W1 b1 W2 (ix4 b t u 0)
      = towerR (fun u v => A (ix2 u v)) (fun u k => X (ix4 b t u k)) (fun k j => W0 (ix2 k j)) (fun j => b0 (ix1 j)) (fun k j => W1 (ix2 k j))
          (fun j => b1 (ix1 j)) (fun k => W2 (ix2 k 0)) u := by
  unfold stream towerR layer
  simp only [dot1_apply, agg256_apply, act256_apply, dot256_apply, dot3_apply, agg3_apply]

/-! Member `s` of each stack of weights. -/

theorem cut3_apply (x : FVec Ideal S3x3x256 .f32) (s : Fin 3) (h) (k : Fin 3) (j : Fin 256) :
    shapeCast S3x256 (extractStridedSlice S1x3x256 ![s.val, 0, 0] x h) shapeCasts_S1x3x256_S3x256 (ix2 k j) = x (ix3 s k j) := by
  pointwise
theorem cutb_apply (x : FVec Ideal S3x256 .f32) (s : Fin 3) (h) (j : Fin 256) :
    shapeCast S256 (extractStridedSlice S1x256 ![s.val, 0] x h) shapeCasts_S1x256_S256 (ix1 j) = x (ix2 s j) := by
  pointwise
theorem cut256_apply (x : FVec Ideal S3x256x256 .f32) (s : Fin 3) (h) (k : Fin 256) (j : Fin 256) :
    shapeCast S256x256 (extractStridedSlice S1x256x256 ![s.val, 0, 0] x h) shapeCasts_S1x256x256_S256x256 (ix2 k j) = x (ix3 s k j) := by
  pointwise
theorem cut1_apply (x : FVec Ideal S3x256x1 .f32) (s : Fin 3) (h) (k : Fin 256) :
    shapeCast S256x1 (extractStridedSlice S1x256x1 ![s.val, 0, 0] x h) shapeCasts_S1x256x1_S256x1 (ix2 k 0) = x (ix3 s k 0) := by
  pointwise
theorem cutl_apply (x : FVec Ideal S3x1 .f32) (s : Fin 3) (h) :
    shapeCast S1 (extractStridedSlice S1x1 ![s.val, 0] x h) shapeCasts_S1x1_S1 (ix1 0) = x (ix2 s 0) := by
  pointwise

/-- Stream `s` at a node. -/
theorem out_apply (x0 : FVec Ideal S64x300x25x3 .f32) (x1 : FVec Ideal S25x25 .f32) (x2 : FVec Ideal S3x3x256 .f32) (x3 : FVec Ideal S3x256 .f32)
    (x4 : FVec Ideal S3x256x256 .f32) (x5 : FVec Ideal S3x256 .f32) (x6 : FVec Ideal S3x256x1 .f32) (x7 : FVec Ideal S3x1 .f32) (s : Fin 3) (h2 h3 h4 h5 h6 h7) (b : Fin 64) (t : Fin 300) (u : Fin 25) :
    act1 (stream x0 x1 (shapeCast S3x256 (extractStridedSlice S1x3x256 ![s.val, 0, 0] x2 h2) shapeCasts_S1x3x256_S3x256)
        (shapeCast S256 (extractStridedSlice S1x256 ![s.val, 0] x3 h3) shapeCasts_S1x256_S256)
        (shapeCast S256x256 (extractStridedSlice S1x256x256 ![s.val, 0, 0] x4 h4) shapeCasts_S1x256x256_S256x256)
        (shapeCast S256 (extractStridedSlice S1x256 ![s.val, 0] x5 h5) shapeCasts_S1x256_S256)
        (shapeCast S256x1 (extractStridedSlice S1x256x1 ![s.val, 0, 0] x6 h6) shapeCasts_S1x256x1_S256x1))
        (shapeCast S1 (extractStridedSlice S1x1 ![s.val, 0] x7 h7) shapeCasts_S1x1_S1) (ix4 b t u 0)
      = max (towerR (fun u v => x1 (ix2 u v)) (fun u k => x0 (ix4 b t u k)) (fun k j => x2 (ix3 s k j)) (fun j => x3 (ix2 s j)) (fun k j => x4 (ix3 s k j))
          (fun j => x5 (ix2 s j)) (fun k => x6 (ix3 s k 0)) u + x7 (ix2 s 0)) 0 := by
  refine (act1_apply _ _ b t u).trans (congrArg (max · 0) (congrArg₂ (· + ·) ((stream_apply _ _ _ _ _ _ _ b t u).trans ?_) (cutl_apply x7 s h7)))
  exact towerR_congr (fun k j => cut3_apply x2 s h2 k j) (fun j => cutb_apply x3 s h3 j) (fun k j => cut256_apply x4 s h4 k j)
    (fun j => cutb_apply x5 s h5 j) (fun k => cut1_apply x6 s h6 k)

section Whole
variable (x0 : (⟨S64x300x25x3, .f32⟩ : BufTy).Contents (Elt Ideal)) (x1 : (⟨S25x25, .f32⟩ : BufTy).Contents (Elt Ideal))
  (x2 : (⟨S3x3x256, .f32⟩ : BufTy).Contents (Elt Ideal)) (x3 : (⟨S3x256, .f32⟩ : BufTy).Contents (Elt Ideal))
  (x4 : (⟨S3x256x256, .f32⟩ : BufTy).Contents (Elt Ideal)) (x5 : (⟨S3x256, .f32⟩ : BufTy).Contents (Elt Ideal))
  (x6 : (⟨S3x256x1, .f32⟩ : BufTy).Contents (Elt Ideal)) (x7 : (⟨S3x1, .f32⟩ : BufTy).Contents (Elt Ideal))

theorem s0_eq : val_main_v41 (F := Ideal) x0 x1 x2 x3 x4 x5 x6 x7
    = act1 (stream x0 x1 (val_main_v1 x2) (val_main_v3 x3) (val_main_v5 x4) (val_main_v7 x5) (val_main_v9 x6)) (val_main_v11 x7) := rfl
theorem s1_eq : val_main_v83 (F := Ideal) x0 x1 x2 x3 x4 x5 x6 x7
    = act1 (stream x0 x1 (val_main_v43 x2) (val_main_v45 x3) (val_main_v47 x4) (val_main_v49 x5) (val_main_v51 x6)) (val_main_v53 x7) := rfl
theorem s2_eq : val_main_v125 (F := Ideal) x0 x1 x2 x3 x4 x5 x6 x7
    = act1 (stream x0 x1 (val_main_v85 x2) (val_main_v87 x3) (val_main_v89 x4) (val_main_v91 x5) (val_main_v93 x6)) (val_main_v95 x7) := rfl

/-- The word of the float three. -/
theorem ofBits_three : Ideal.ofBits .f32 0x40400000#32 = ((3 : ℝ) : EReal) := by
  simp [Ideal.ofBits, Ideal.ieee, -EReal.coe_mul]; norm_num

/-- The pooled value at a node, from the three streams there. -/
theorem pool_of (b : Fin 64) (t : Fin 300) (u : Fin 25) :
    val_main_v132 (F := Ideal) x0 x1 x2 x3 x4 x5 x6 x7 (ix2 b ⟨25 * t.val + u.val, by omega⟩)
      = (val_main_v41 (F := Ideal) x0 x1 x2 x3 x4 x5 x6 x7 (ix4 b t u 0) + val_main_v83 (F := Ideal) x0 x1 x2 x3 x4 x5 x6 x7 (ix4 b t u 0)
          + val_main_v125 (F := Ideal) x0 x1 x2 x3 x4 x5 x6 x7 (ix4 b t u 0) : EReal) * ((1 / 3 : ℝ) : EReal) := by
  unfold val_main_v132 val_main_v131 val_main_v130 val_main_v129 val_main_v128 val_main_v127 val_main_v126 val_main_cst_8 val_main_cst_9
  generalize val_main_v41 (F := Ideal) x0 x1 x2 x3 x4 x5 x6 x7 = y0
  generalize val_main_v83 (F := Ideal) x0 x1 x2 x3 x4 x5 x6 x7 = y1
  generalize val_main_v125 (F := Ideal) x0 x1 x2 x3 x4 x5 x6 x7 = y2
  pointwise
  rw [ofBits_three]
  exact Ideal.div_coe (by norm_num) _

/-- The reference's pooled value at a node. -/
theorem pool_apply (b : Fin 64) (t : Fin 300) (u : Fin 25) :
    val_main_v132 (F := Ideal) x0 x1 x2 x3 x4 x5 x6 x7 (ix2 b ⟨25 * t.val + u.val, by omega⟩)
      = meanR (fun u v => x1 (ix2 u v)) (fun u k => x0 (ix4 b t u k)) (fun s k j => x2 (ix3 s k j)) (fun s j => x3 (ix2 s j)) (fun s k j => x4 (ix3 s k j))
          (fun s j => x5 (ix2 s j)) (fun s k => x6 (ix3 s k 0)) (fun s => x7 (ix2 s 0)) u := by
  rw [pool_of]
  unfold meanR
  refine congrArg (· * _) (congrArg₂ (· + ·) (congrArg₂ (· + ·) ?_ ?_) ?_)
  · exact (congrFun (s0_eq x0 x1 x2 x3 x4 x5 x6 x7) _).trans (out_apply x0 x1 x2 x3 x4 x5 x6 x7 0 _ _ _ _ _ _ b t u)
  · exact (congrFun (s1_eq x0 x1 x2 x3 x4 x5 x6 x7) _).trans (out_apply x0 x1 x2 x3 x4 x5 x6 x7 1 _ _ _ _ _ _ b t u)
  · exact (congrFun (s2_eq x0 x1 x2 x3 x4 x5 x6 x7) _).trans (out_apply x0 x1 x2 x3 x4 x5 x6 x7 2 _ _ _ _ _ _ b t u)

variable (x8 : (⟨S7500x512, .f32⟩ : BufTy).Contents (Elt Ideal)) (x9 : (⟨S512, .f32⟩ : BufTy).Contents (Elt Ideal))
  (x10 : (⟨S512x60, .f32⟩ : BufTy).Contents (Elt Ideal)) (x11 : (⟨S60, .f32⟩ : BufTy).Contents (Elt Ideal))

/-- The reference's result, from the pooled values. -/
theorem logits_apply (b : Fin 64) (j : Fin 60) :
    val_main_v141 (F := Ideal) x0 x1 x2 x3 x4 x5 x6 x7 x8 x9 x10 x11 (ix2 b j)
      = logit (fun r => val_main_v132 (F := Ideal) x0 x1 x2 x3 x4 x5 x6 x7 (ix2 b r)) (fun r h => x8 (ix2 r h)) (fun h => x9 (ix1 h))
          (fun h j => x10 (ix2 h j)) (fun j => x11 (ix1 j)) j := by
  unfold val_main_v141 val_main_v140 val_main_v139 val_main_v138 val_main_v137 val_main_call9_v0 val_main_call9_cst val_main_v136 val_main_v135 val_main_v134 val_main_v133
  generalize val_main_v132 (F := Ideal) x0 x1 x2 x3 x4 x5 x6 x7 = y
  unfold logit
  pointwise

end Whole

end Cert.ReferenceIdeal.Hand

end

end
-- ==== Proof.RefFrame.lean ====
/-
  The reference's run: its arguments stay and it has no semaphore.
-/
module

public import proofs.«01_k».proof.Proof.Gen.ReferenceIdeal.Run
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe
open Idealize.SL.Sem

/-- No counter of the reference is other than zero: there is none. -/
theorem sem_zero {F : FTy → Type} (s : MemSt nD τ sig (Elt F)) : s.sem = fun _ => 0 := sem_eq_zero_of_no_sems rfl s

end Cert.ReferenceIdeal.Hand

end

end
-- ==== Proof.KI.Bodies.lean ====
/-
  The idealised kernel's three bodies, each run once at symbolic operands held whole: what each leaves in its result's block.
-/
module

public import proofs.«01_k».proof.Proof.Gen.KernelIdeal
public import proofs.«01_k».proof.Proof.Gen.KernelIdeal.Skeleton
public import Idealize.ShloMosaic.Lib.Tactic
public import Idealize.ShloMosaic.Lib.Pipeline.Kit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The user part of the ghost state: two copies of the pipelines' rounds. -/
abbrev UU : Type := UR sig nD τ × UR sig nD τ

local notation "𝕄" => MT nD τ sig Unit (Elt F) ℕ UU ℕ

/-- The buffer under a memref on core `c`. -/
abbrev Bf (c : Dev nD) {sp : Space} {S : Shape} {e : EltTy} (M : Memref sig .tc sp S e) : Type :=
  Buf (Elt F) (M.view.loc (c : Thread nD τ))

/-- It is held whole at `f`. -/
abbrev pt (c : Dev nD) {sp : Space} {S : Shape} {e : EltTy} (M : Memref sig .tc sp S e) (f : Bf (F := F) c M) : sProp 𝕄 :=
  M.view.loc (c : Thread nD τ) ↦{fullShare} f

/-- The transposing body: from its block and the result's block held whole, it runs to its return with the block as it was and
    the first 7500 columns of the result's block written over. -/
theorem trRun (c : Dev nD) (i : grid0.Coords)
    (M1 : Memref sig .tc .vmem S1x7500x64 .f32) (h1 : M1.IsWhole) (M2 : Memref sig .tc .vmem S1x64x1x7552 .f32) (h2 : M2.IsWhole)
    (f1 : Bf (F := F) c M1) (f2 : Bf (F := F) c M2) (Q : PUnit → sProp 𝕄) :
    iprop(pt c M1 f1 ∗ pt c M2 f2
      ∗ (iprop(pt c M1 f1 ∗ pt c M2 (M2.view.writes (Elt F) f2
          [⟨Rect.unit (s := S1x64x1x7552) ![0, 0, 0, 0] S1x64x1x7500.size inb_S1x64x1x7552_S1x64x1x7500_0_0_0_0,
            k0_pay1 (View.readAt (Elt F) M1.view (Rect.unit (s := S1x7500x64) ![0, 0, 0] S1x7500x64.size inb_S1x7500x64_S1x7500x64_0_0_0).toLoadRect f1)⟩])) -∗ Q ⟨⟩))
    ⊢ wp frame (wpE (defs₀ (F := F)) Variants.none c none) Set.univ (cc0__tr_body i M1 h1 M2 h2) Q := by
  iintro ⟨H1, H2, Hk⟩
  sl_exec
  sl_step
  iapply Hk
  isplitl [H1]; · iexact H1
  iexact H2

/-- The row the main body stores, found by its run: from the blocks held whole, the body runs to its return with them as they
    were and one row of the result's block, the one its point numbers, written over. -/
noncomputable def ginRun (c : Dev nD)
    (M2 : Memref sig .tc .vmem S3x1x1x7552 .f32) (h2 : M2.IsWhole) (M3 : Memref sig .tc .vmem S200x200 .f32) (h3 : M3.IsWhole)
    (M4 : Memref sig .tc .vmem S3x3x256 .f32) (h4 : M4.IsWhole) (M5 : Memref sig .tc .vmem S3x256 .f32) (h5 : M5.IsWhole)
    (M6 : Memref sig .tc .vmem S3x256x256 .f32) (h6 : M6.IsWhole) (M7 : Memref sig .tc .vmem S3x256 .f32) (h7 : M7.IsWhole)
    (M8 : Memref sig .tc .vmem S3x256x1 .f32) (h8 : M8.IsWhole) (M9 : Memref sig .tc .vmem S3x1 .f32) (h9 : M9.IsWhole)
    (M10 : Memref sig .tc .vmem S64x7500 .f32) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) :
    { row : FVec F S1x7500 .f32 // ∀ (i : grid1.Coords) (f10 : Bf (F := F) c M10) (Q : PUnit → sProp 𝕄),
      iprop(pt c M2 f2 ∗ pt c M3 f3 ∗ pt c M4 f4 ∗ pt c M5 f5 ∗ pt c M6 f6 ∗ pt c M7 f7 ∗ pt c M8 f8 ∗ pt c M9 f9 ∗ pt c M10 f10
        ∗ (iprop(pt c M2 f2 ∗ pt c M3 f3 ∗ pt c M4 f4 ∗ pt c M5 f5 ∗ pt c M6 f6 ∗ pt c M7 f7 ∗ pt c M8 f8 ∗ pt c M9 f9
            ∗ pt c M10 (M10.view.writes (Elt F) f10
                [⟨Rect.unit (s := S64x7500) (k1_off1 i) S1x7500.size (k1_off1_inb i), row⟩])) -∗ Q ⟨⟩))
      ⊢ wp frame (wpE (defs₀ (F := F)) Variants.none c none) Set.univ
          (cc1__gin_body i M2 h2 M3 h3 M4 h4 M5 h5 M6 h6 M7 h7 M8 h8 M9 h9 M10 h10) Q } := by
  refine ⟨?_, fun i f10 Q => ?run⟩
  case run =>
    iintro ⟨H2, H3, H4, H5, H6, H7, H8, H9, H10, Hk⟩
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The classifier's body: from its operands and the result held whole, it runs to its return with the operands as they were and
    the whole result written over. -/
theorem mlpRun (c : Dev nD)
    (M0 : Memref sig .tc .vmem S64x7500 .f32) (h0 : M0.IsWhole) (M1 : Memref sig .tc .vmem S7500x512 .f32) (h1 : M1.IsWhole)
    (M2 : Memref sig .tc .vmem S1x512 .f32) (h2 : M2.IsWhole) (M3 : Memref sig .tc .vmem S512x60 .f32) (h3 : M3.IsWhole)
    (M4 : Memref sig .tc .vmem S1x60 .f32) (h4 : M4.IsWhole) (M5 : Memref sig .tc .vmem S64x60 .f32) (h5 : M5.IsWhole)
    (f0 : Bf (F := F) c M0) (f1 : Bf (F := F) c M1) (f2 : Bf (F := F) c M2) (f3 : Bf (F := F) c M3) (f4 : Bf (F := F) c M4)
    (f5 : Bf (F := F) c M5) (Q : PUnit → sProp 𝕄) :
    iprop(pt c M0 f0 ∗ pt c M1 f1 ∗ pt c M2 f2 ∗ pt c M3 f3 ∗ pt c M4 f4 ∗ pt c M5 f5
      ∗ (iprop(pt c M0 f0 ∗ pt c M1 f1 ∗ pt c M2 f2 ∗ pt c M3 f3 ∗ pt c M4 f4
          ∗ pt c M5 (M5.view.writes (Elt F) f5
              [⟨Rect.unit (s := S64x60) ![0, 0] S64x60.size inb_S64x60_S64x60_0_0,
                k2_pay1
                  (View.readAt (Elt F) M0.view (Rect.unit (s := S64x7500) ![0, 0] S64x7500.size inb_S64x7500_S64x7500_0_0).toLoadRect f0)
                  (View.readAt (Elt F) M1.view (Rect.unit (s := S7500x512) ![0, 0] S7500x512.size inb_S7500x512_S7500x512_0_0).toLoadRect f1)
                  (View.readAt (Elt F) M2.view (Rect.unit (s := S1x512) ![0, 0] S1x512.size inb_S1x512_S1x512_0_0).toLoadRect f2)
                  (View.readAt (Elt F) M3.view (Rect.unit (s := S512x60) ![0, 0] S512x60.size inb_S512x60_S512x60_0_0).toLoadRect f3)
                  (View.readAt (Elt F) M4.view (Rect.unit (s := S1x60) ![0, 0] S1x60.size inb_S1x60_S1x60_0_0).toLoadRect f4)⟩])) -∗ Q ⟨⟩))
    ⊢ wp frame (wpE (defs₀ (F := F)) Variants.none c none) Set.univ (cc2__mlp_body M0 h0 M1 h1 M2 h2 M3 h3 M4 h4 M5 h5) Q := by
  iintro ⟨H0, H1, H2, H3, H4, H5, Hk⟩
  sl_exec
  sl_step
  iapply Hk
  isplitl [H0]; · iexact H0
  isplitl [H1]; · iexact H1
  isplitl [H2]; · iexact H2
  isplitl [H3]; · iexact H3
  isplitl [H4]; · iexact H4
  iexact H5

end Cert.KernelIdeal.Hand

end
-- ==== Proof.KI.Regions.lean ====
/-
  The idealised kernel's three regions, each from the buffers it finds to what it leaves: the proof data, what a result's
  staging block is held to at each point, and the library's body obligation from the bodies' runs.
-/
module

public import proofs.«01_k».proof.Proof.KI.Bodies
public import proofs.«01_k».proof.Proof.Segments
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.WritesUnit
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F] [Named F]

local notation "𝕄" => MT nD τ sig Unit (Elt F) ℕ UU ℕ

/-- A memref of a whole buffer, owned: its buffer held whole at contents that it reads so. -/
theorem owns_isWhole (c : Dev nD) {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

variable (V : Dev nD → Valuation τ sig (Elt F))

/-- What window `w`'s buffer holds after a fetch at point `t`: its block of the array, at the contents the region finds. -/
def blk (p : Fin 3) (c : Dev nD) (w : Fin (cfgs p).W) (t : Fin (cfgs p).N) : ((cfgs p).win w).block.Idx → Elt F ((cfgs p).win w).elt :=
  ((cfgs p).win w).fill ((cfgs p).grid.coords t) (fun _ => Classical.arbitrary _)
    ((((cfgs p).win w).blk t).view.read (Elt F) (V c (Proc.devRef .tc (Pipeline.arrRef (cfgs p).spec w))))

/-- The regions' proof data: each array as found, each staging block left as fetched (the results' are read by a relation instead). -/
def dats (p : Fin 3) (c : Dev nD) : Dat τ (Elt F) Unit ℕ UU ℕ (cfgs p) c where
  A w := V c (Proc.devRef .tc (Pipeline.arrRef (cfgs p).spec w))
  after w t := blk V p c w t
  Φ _ := Pipeline.scopedRest (cfgs p).spec c
  q _ := fullShare
  owed _ := 0

/-- The results' windows are the marked ones. -/
abbrev mark (p : Fin 3) (w : Fin (cfgs p).W) : Bool := ((cfgs p).win w).isOut

theorem before0_0 (c : Dev nD) (t : Fin cfg0.N) (d) : (dats V 0 c).before 0 t d = blk V 0 c 0 t :=
  (dats V 0 c).before_in_eq_fetched 0 rfl (fun _ => rfl) (fun _ _ _ => rfl) (fun _ => rfl) t d
theorem before1_0 (c : Dev nD) (t : Fin cfg1.N) (d) : (dats V 1 c).before 0 t d = blk V 1 c 0 t :=
  (dats V 1 c).before_in_eq_fetched 0 rfl (fun _ => rfl) (fun _ _ _ => rfl) (fun _ => rfl) t d
theorem before1_1 (c : Dev nD) (t : Fin cfg1.N) (d) : (dats V 1 c).before 1 t d = blk V 1 c 1 t :=
  (dats V 1 c).before_in_eq_fetched 1 rfl (fun _ => rfl) (fun _ _ _ => rfl) (fun _ => rfl) t d
theorem before1_2 (c : Dev nD) (t : Fin cfg1.N) (d) : (dats V 1 c).before 2 t d = blk V 1 c 2 t :=
  (dats V 1 c).before_in_eq_fetched 2 rfl (fun _ => rfl) (fun _ _ _ => rfl) (fun _ => rfl) t d
theorem before1_3 (c : Dev nD) (t : Fin cfg1.N) (d) : (dats V 1 c).before 3 t d = blk V 1 c 3 t :=
  (dats V 1 c).before_in_eq_fetched 3 rfl (fun _ => rfl) (fun _ _ _ => rfl) (fun _ => rfl) t d
theorem before1_4 (c : Dev nD) (t : Fin cfg1.N) (d) : (dats V 1 c).before 4 t d = blk V 1 c 4 t :=
  (dats V 1 c).before_in_eq_fetched 4 rfl (fun _ => rfl) (fun _ _ _ => rfl) (fun _ => rfl) t d
theorem before1_5 (c : Dev nD) (t : Fin cfg1.N) (d) : (dats V 1 c).before 5 t d = blk V 1 c 5 t :=
  (dats V 1 c).before_in_eq_fetched 5 rfl (fun _ => rfl) (fun _ _ _ => rfl) (fun _ => rfl) t d
theorem before1_6 (c : Dev nD) (t : Fin cfg1.N) (d) : (dats V 1 c).before 6 t d = blk V 1 c 6 t :=
  (dats V 1 c).before_in_eq_fetched 6 rfl (fun _ => rfl) (fun _ _ _ => rfl) (fun _ => rfl) t d
theorem before1_7 (c : Dev nD) (t : Fin cfg1.N) (d) : (dats V 1 c).before 7 t d = blk V 1 c 7 t :=
  (dats V 1 c).before_in_eq_fetched 7 rfl (fun _ => rfl) (fun _ _ _ => rfl) (fun _ => rfl) t d
theorem before2_0 (c : Dev nD) (t : Fin cfg2.N) (d) : (dats V 2 c).before 0 t d = blk V 2 c 0 t :=
  (dats V 2 c).before_in_eq_fetched 0 rfl (fun _ => rfl) (fun _ _ _ => rfl) (fun _ => rfl) t d
theorem before2_1 (c : Dev nD) (t : Fin cfg2.N) (d) : (dats V 2 c).before 1 t d = blk V 2 c 1 t :=
  (dats V 2 c).before_in_eq_fetched 1 rfl (fun _ => rfl) (fun _ _ _ => rfl) (fun _ => rfl) t d
theorem before2_2 (c : Dev nD) (t : Fin cfg2.N) (d) : (dats V 2 c).before 2 t d = blk V 2 c 2 t :=
  (dats V 2 c).before_in_eq_fetched 2 rfl (fun _ => rfl) (fun _ _ _ => rfl) (fun _ => rfl) t d
theorem before2_3 (c : Dev nD) (t : Fin cfg2.N) (d) : (dats V 2 c).before 3 t d = blk V 2 c 3 t :=
  (dats V 2 c).before_in_eq_fetched 3 rfl (fun _ => rfl) (fun _ _ _ => rfl) (fun _ => rfl) t d
theorem before2_4 (c : Dev nD) (t : Fin cfg2.N) (d) : (dats V 2 c).before 4 t d = blk V 2 c 4 t :=
  (dats V 2 c).before_in_eq_fetched 4 rfl (fun _ => rfl) (fun _ _ _ => rfl) (fun _ => rfl) t d

/-! ## What the results' staging blocks are held to -/

/-- The transposing region: the columns its body writes hold the transposed block. -/
def left0 (c : Dev nD) (t : Fin cfg0.N) (X : S1x64x1x7552.Idx → Elt F .f32) : Prop :=
  ∀ (y : S1x64x1x7552.Idx) (j : S1x64x1x7500.Idx), (∀ a, (y a).val = (j a).val) → X y = k0_pay1 (F := F) (blk V 0 c 0 t) j

variable (rowOk : Dev nD → Fin cfg1.N → FVec F S1x7500 .f32 → Prop)

/-- The main region, by what a point's row may be: every row up to the current point's is such a row. -/
def left1 (c : Dev nD) (t : Fin cfg1.N) (X : S64x7500.Idx → Elt F .f32) : Prop :=
  ∀ b : Fin cfg1.N, b ≤ t → ∃ row, rowOk c b row ∧ ∀ (y : S64x7500.Idx) (j : S1x7500.Idx), (y 0).val = b.val → (y 1).val = (j 1).val → X y = row j

/-- The classifier's region: the result. -/
def left2 (c : Dev nD) (t : Fin cfg2.N) (X : S64x60.Idx → Elt F .f32) : Prop :=
  X = k2_pay1 (F := F) (blk V 2 c 0 t) (blk V 2 c 1 t) (blk V 2 c 2 t) (blk V 2 c 3 t) (blk V 2 c 4 t)

/-- The three, as one relation over the regions' windows. -/
def left : (p : Fin 3) → Dev nD → (w : Fin (cfgs p).W) → Fin (cfgs p).N → (((cfgs p).win w).block.Idx → Elt F ((cfgs p).win w).elt) → Prop
  | 0, c, 1, t, X => left0 V c t X
  | 1, c, 8, t, X => left1 rowOk c t X
  | 2, c, 5, t, X => left2 V c t X
  | _, _, _, _, _ => True

end Cert.KernelIdeal.Hand

end
-- ==== Proof.KI.Obligations.lean ====
/-
  The library's body obligation of each of the idealised kernel's three regions, from the bodies' runs.
-/
module

public import proofs.«01_k».proof.Proof.KI.Regions

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F] [Named F]

local notation "𝕄" => MT nD τ sig Unit (Elt F) ℕ UU ℕ

variable (V : Dev nD → Valuation τ sig (Elt F)) (rowOk : Dev nD → Fin cfg1.N → FVec F S1x7500 .f32 → Prop)

/-- The transposing region's staging memrefs are whole buffers. -/
theorem hs0_0 (t : Fin cfg0.N) : (st0_0 t).IsWhole := hstage0_0 ((cfg0.slots t 0).cast nbuf0_0)
theorem hs0_1 (t : Fin cfg0.N) : (st0_1 t).IsWhole := hstage0_1 ((cfg0.slots t 1).cast nbuf0_1)

theorem defs₀_row0 (t : Fin (cfgs 0).N) : defs₀ (F := F) .tc (cfgs 0).body ((cfgs 0).bodyArgs t ((cfgs 0).slots t)) = bodyAt0 t :=
  have h (t : Fin cfg0.N) : defs₀ (F := F) .tc cfg0.body (cfg0.bodyArgs t (cfg0.slots t)) = bodyAt0 t := by
    unfold defs₀; rw [Defs.onTc_tc]
  h t
theorem defs₀_row1 (t : Fin (cfgs 1).N) : defs₀ (F := F) .tc (cfgs 1).body ((cfgs 1).bodyArgs t ((cfgs 1).slots t)) = bodyAt1 t :=
  have h (t : Fin cfg1.N) : defs₀ (F := F) .tc cfg1.body (cfg1.bodyArgs t (cfg1.slots t)) = bodyAt1 t := by
    unfold defs₀; rw [Defs.onTc_tc]
  h t
theorem defs₀_row2 (t : Fin (cfgs 2).N) : defs₀ (F := F) .tc (cfgs 2).body ((cfgs 2).bodyArgs t ((cfgs 2).slots t)) = bodyAt2 t :=
  have h (t : Fin cfg2.N) : defs₀ (F := F) .tc cfg2.body (cfg2.bodyArgs t (cfg2.slots t)) = bodyAt2 t := by
    unfold defs₀; rw [Defs.onTc_tc]
  h t

/-- What the transposing body leaves meets its relation. -/
theorem left0_of (c : Dev nD) (t : Fin cfg0.N) (f1 : Bf (F := F) c (st0_0 t)) (f2 : Bf (F := F) c (st0_1 t))
    (h1 : (st0_0 t).view.read (Elt F) f1 = blk V 0 c 0 t) :
    left0 V c t ((st0_1 t).view.read (Elt F) ((st0_1 t).view.writes (Elt F) f2
      [⟨Rect.unit (s := S1x64x1x7552) ![0, 0, 0, 0] S1x64x1x7500.size inb_S1x64x1x7552_S1x64x1x7500_0_0_0_0,
        k0_pay1 (View.readAt (Elt F) (st0_0 t).view (Rect.unit (s := S1x7500x64) ![0, 0, 0] S1x7500x64.size inb_S1x7500x64_S1x7500x64_0_0_0).toLoadRect f1)⟩])) := by
  intro y j hj
  have e : View.readAt (Elt F) (st0_0 t).view (Rect.unit (s := S1x7500x64) ![0, 0, 0] S1x7500x64.size inb_S1x7500x64_S1x7500x64_0_0_0).toLoadRect f1
      = blk V 0 c 0 t := by
    rw [View.readAt_eq_ld, h1]; exact View.ld_unit_zero (by funext a; fin_cases a <;> rfl) _ _
  rw [e]
  refine View.read_writes_cons_unit_of_mem _ _ _ _ _ y j rfl fun a => ?_
  rw [hj a]; fin_cases a <;> exact (Nat.zero_add _).symm

theorem obligation0 (c : Dev nD) :
    BodyObligationRel (dats V 0 c) (defs₀ (F := F)) Variants.none () Set.univ (mark 0) (left V rowOk 0 c) := fun t => by
  rw [bigSep_W0, bigSep_W0, defs₀_row0]
  show iprop(Pipeline.scopedRest spec0 c ∗ (dats V 0 c).owesAt () t.castSucc
      ∗ (∃ d, owns (c : Thread nD τ) (st0_0 t) fullShare ((dats V 0 c).before 0 t d))
      ∗ (∃ Y, ⌜((dats V 0 c).toRRel (mark 0) (left V rowOk 0 c)).Finds 1 t Y⌝ ∗ owns (c : Thread nD τ) (st0_1 t) fullShare Y))
    ⊢ wp frame (wpE (defs₀ (F := F)) Variants.none c none) Set.univ (bodyAt0 t) fun _ =>
      iprop(Pipeline.scopedRest spec0 c ∗ (dats V 0 c).owesAt () t.castSucc
        ∗ owns (c : Thread nD τ) (st0_0 t) fullShare (blk V 0 c 0 t)
        ∗ (∃ X, ⌜left0 V c t X⌝ ∗ owns (c : Thread nD τ) (st0_1 t) fullShare X))
  simp only [before0_0]
  simp only [owns_isWhole c (hs0_0 t), owns_isWhole c (hs0_1 t)]
  iintro ⟨HS, HO, ⟨%d0, %f1, %hf1, H1⟩, ⟨%Y, %hY, %f2, %hf2, H2⟩⟩
  iapply (trRun c (grid0.coords t) (st0_0 t) (hs0_0 t) (st0_1 t) (hs0_1 t) f1 f2 _)
  isplitl [H1]; · iexact H1
  isplitl [H2]; · iexact H2
  iintro ⟨H1, H2⟩
  isplitl [HS]; · iexact HS
  isplitl [HO]; · iexact HO
  isplitl [H1]
  · iexists f1; isplitr; · ipureintro; exact hf1
    iexact H1
  iexists _; isplitr; swap
  · iexists _; isplitr; swap; · iexact H2
    ipureintro; rfl
  ipureintro; exact left0_of V c t f1 f2 hf1

/-- The classifier's staging memrefs are whole buffers; -/
theorem hs2_0 (t : Fin cfg2.N) : (st2_0 t).IsWhole := hstage2_0 0
theorem hs2_1 (t : Fin cfg2.N) : (st2_1 t).IsWhole := hstage2_1 0
theorem hs2_2 (t : Fin cfg2.N) : (st2_2 t).IsWhole := hstage2_2 0
theorem hs2_3 (t : Fin cfg2.N) : (st2_3 t).IsWhole := hstage2_3 0
theorem hs2_4 (t : Fin cfg2.N) : (st2_4 t).IsWhole := hstage2_4 0
theorem hs2_5 (t : Fin cfg2.N) : (st2_5 t).IsWhole := hstage2_5 0
/-- and the main region's. -/
theorem hs1_0 (t : Fin cfg1.N) : (st1_0 t).IsWhole := hstage1_0 ((cfg1.slots t 0).cast nbuf1_0)
theorem hs1_1 (t : Fin cfg1.N) : (st1_1 t).IsWhole := hstage1_1 ((cfg1.slots t 1).cast nbuf1_1)
theorem hs1_2 (t : Fin cfg1.N) : (st1_2 t).IsWhole := hstage1_2 ((cfg1.slots t 2).cast nbuf1_2)
theorem hs1_3 (t : Fin cfg1.N) : (st1_3 t).IsWhole := hstage1_3 ((cfg1.slots t 3).cast nbuf1_3)
theorem hs1_4 (t : Fin cfg1.N) : (st1_4 t).IsWhole := hstage1_4 ((cfg1.slots t 4).cast nbuf1_4)
theorem hs1_5 (t : Fin cfg1.N) : (st1_5 t).IsWhole := hstage1_5 ((cfg1.slots t 5).cast nbuf1_5)
theorem hs1_6 (t : Fin cfg1.N) : (st1_6 t).IsWhole := hstage1_6 ((cfg1.slots t 6).cast nbuf1_6)
theorem hs1_7 (t : Fin cfg1.N) : (st1_7 t).IsWhole := hstage1_7 ((cfg1.slots t 7).cast nbuf1_7)
theorem hs1_8 (t : Fin cfg1.N) : (st1_8 t).IsWhole := hstage1_8 ((cfg1.slots t 8).cast nbuf1_8)

/-- A load of a whole memref reads it. -/
theorem readAt_whole {sp : Space} {S : Shape} {e : EltTy} (M : Memref sig .tc sp S e) (f : M.view.ty.Contents (Elt F)) {off : Fin S.rank → ℕ}
    (h0 : off = fun _ => 0) (inb : ∀ a, off a + S.size a ≤ S.size a) :
    View.readAt (Elt F) M.view (Rect.unit (s := S) off S.size inb).toLoadRect f = M.view.read (Elt F) f := by
  rw [View.readAt_eq_ld]; exact View.ld_unit_zero h0 _ _

theorem off2_zero : (![0, 0] : Fin 2 → ℕ) = fun _ => 0 := by funext a; fin_cases a <;> rfl

theorem k2_congr {a a' : Vec F S64x7500 .f32} {b b' : Vec F S7500x512 .f32} {c c' : Vec F S1x512 .f32} {d d' : Vec F S512x60 .f32}
    {e e' : Vec F S1x60 .f32} (ha : a = a') (hb : b = b') (hc : c = c') (hd : d = d') (he : e = e') :
    k2_pay1 a b c d e = k2_pay1 a' b' c' d' e' := by
  rw [ha, hb, hc, hd, he]

/-- Point `t` of the main region's grid is at coordinate `t`. -/
theorem coords1 : ∀ t : Fin cfg1.N, ((grid1.coords t) 0).val = t.val := by decide +kernel

set_option maxHeartbeats 800000 in
theorem obligation2 (c : Dev nD) :
    BodyObligationRel (dats V 2 c) (defs₀ (F := F)) Variants.none () Set.univ (mark 2) (left V rowOk 2 c) := fun t => by
  rw [bigSep_W2, bigSep_W2, defs₀_row2]
  show iprop(Pipeline.scopedRest spec2 c ∗ (dats V 2 c).owesAt () t.castSucc
      ∗ (∃ d, owns (c : Thread nD τ) (st2_0 t) fullShare ((dats V 2 c).before 0 t d))
      ∗ (∃ d, owns (c : Thread nD τ) (st2_1 t) fullShare ((dats V 2 c).before 1 t d))
      ∗ (∃ d, owns (c : Thread nD τ) (st2_2 t) fullShare ((dats V 2 c).before 2 t d))
      ∗ (∃ d, owns (c : Thread nD τ) (st2_3 t) fullShare ((dats V 2 c).before 3 t d))
      ∗ (∃ d, owns (c : Thread nD τ) (st2_4 t) fullShare ((dats V 2 c).before 4 t d))
      ∗ (∃ Y, ⌜((dats V 2 c).toRRel (mark 2) (left V rowOk 2 c)).Finds 5 t Y⌝ ∗ owns (c : Thread nD τ) (st2_5 t) fullShare Y))
    ⊢ wp frame (wpE (defs₀ (F := F)) Variants.none c none) Set.univ (bodyAt2 t) fun _ =>
      iprop(Pipeline.scopedRest spec2 c ∗ (dats V 2 c).owesAt () t.castSucc
        ∗ owns (c : Thread nD τ) (st2_0 t) fullShare (blk V 2 c 0 t)
        ∗ owns (c : Thread nD τ) (st2_1 t) fullShare (blk V 2 c 1 t)
        ∗ owns (c : Thread nD τ) (st2_2 t) fullShare (blk V 2 c 2 t)
        ∗ owns (c : Thread nD τ) (st2_3 t) fullShare (blk V 2 c 3 t)
        ∗ owns (c : Thread nD τ) (st2_4 t) fullShare (blk V 2 c 4 t)
        ∗ (∃ X, ⌜left2 V c t X⌝ ∗ owns (c : Thread nD τ) (st2_5 t) fullShare X))
  simp only [before2_0, before2_1, before2_2, before2_3, before2_4]
  simp only [owns_isWhole c (hs2_0 t), owns_isWhole c (hs2_1 t), owns_isWhole c (hs2_2 t), owns_isWhole c (hs2_3 t), owns_isWhole c (hs2_4 t),
    owns_isWhole c (hs2_5 t)]
  iintro ⟨HS, HO, ⟨%d0, %f0, %hf0, H0⟩, ⟨%d1, %f1, %hf1, H1⟩, ⟨%d2, %f2, %hf2, H2⟩, ⟨%d3, %f3, %hf3, H3⟩, ⟨%d4, %f4, %hf4, H4⟩,
    ⟨%Y, %hY, %f5, %hf5, H5⟩⟩
  iapply (mlpRun c (st2_0 t) (hs2_0 t) (st2_1 t) (hs2_1 t) (st2_2 t) (hs2_2 t) (st2_3 t) (hs2_3 t) (st2_4 t) (hs2_4 t) (st2_5 t) (hs2_5 t)
    f0 f1 f2 f3 f4 f5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HS]; · iexact HS
  isplitl [HO]; · iexact HO
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr; swap
  · iexists _; isplitr; swap; · iexact H5
    ipureintro; rfl
  ipureintro
  exact (View.read_writes_full _ _ _ _ _).trans (k2_congr ((readAt_whole (st2_0 t) f0 off2_zero _).trans hf0)
    ((readAt_whole (st2_1 t) f1 off2_zero _).trans hf1) ((readAt_whole (st2_2 t) f2 off2_zero _).trans hf2)
    ((readAt_whole (st2_3 t) f3 off2_zero _).trans hf3) ((readAt_whole (st2_4 t) f4 off2_zero _).trans hf4))

/-- Before a point the main region's result block has the rows of the points before it. -/
theorem finds1 (c : Dev nD) (t : Fin cfg1.N) (Y : S64x7500.Idx → Elt F .f32)
    (h : ((dats V 1 c).toRRel (mark 1) (left V rowOk 1 c)).Finds 8 t Y) (b : Fin cfg1.N) (hb : b < t) :
    ∃ row, rowOk c b row ∧ ∀ (y : S64x7500.Idx) (j : S1x7500.Idx), (y 0).val = b.val → (y 1).val = (j 1).val → Y y = row j := by
  have ht : t.val ≠ 0 := by have : b.val < t.val := hb; omega
  have hN : t.val < 64 := Nat.lt_of_lt_of_eq t.isLt N_1
  rcases (RDat.finds_of_pos (rd := (dats V 1 c).toRRel (mark 1) (left V rowOk 1 c)) (w := 8) (t := t) rfl ht Y).mp h with h' | h'
  · have := (flush1_8 _).mp h'
    dsimp only at this; omega
  · exact (Dat.toRRel_leaves (dat := dats V 1 c) (w := 8) rfl h' : left1 rowOk c _ Y) b (by show b.val ≤ t.val - 1; have : b.val < t.val := hb; omega)

/-- and after it its own too. -/
theorem left1_of (c : Dev nD) (t : Fin cfg1.N) (f10 : Bf (F := F) c (st1_8 t)) (row : FVec F S1x7500 .f32) (hrow : rowOk c t row)
    (h : ((dats V 1 c).toRRel (mark 1) (left V rowOk 1 c)).Finds 8 t ((st1_8 t).view.read (Elt F) f10)) :
    left1 rowOk c t ((st1_8 t).view.read (Elt F) ((st1_8 t).view.writes (Elt F) f10
      [⟨Rect.unit (s := S64x7500) (k1_off1 (grid1.coords t)) S1x7500.size (k1_off1_inb (grid1.coords t)), row⟩])) := by
  have hc := coords1 t
  intro b hb
  by_cases hbt : b = t
  · subst hbt
    refine ⟨row, hrow, fun y j h0 h1 => ?_⟩
    refine View.read_writes_cons_unit_of_mem _ _ _ _ _ y j (k1_off1_eq (grid1.coords b)) fun a => ?_
    have := (j 0).isLt
    fin_cases a
    · show (y 0).val = ((grid1.coords b) 0).val + (j 0).val
      have : (j 0).val < 1 := (j 0).isLt
      omega
    · show (y 1).val = 0 + (j 1).val
      omega
  · obtain ⟨r, hr, hy⟩ := finds1 V rowOk c t _ h b (lt_of_le_of_ne hb hbt)
    refine ⟨r, hr, fun y j h0 h1 => ?_⟩
    rw [View.read_writes_cons_unit_of_not_mem _ _ _ _ _ y (k1_off1_eq (grid1.coords t)) (0 : Fin 2)]
    · exact hy y j h0 h1
    · have : b.val ≠ t.val := fun e => hbt (Fin.ext e)
      show (y 0).val < ((grid1.coords t) 0).val ∨ ((grid1.coords t) 0).val + 1 ≤ (y 0).val
      omega

/-- Each row that the main body stores is as `rowOk` says. -/
def RowsOk : Prop := ∀ (c : Dev nD) (t : Fin cfg1.N) (f2 : Bf (F := F) c (st1_0 t)) (f3 : Bf (F := F) c (st1_1 t)) (f4 : Bf (F := F) c (st1_2 t))
  (f5 : Bf (F := F) c (st1_3 t)) (f6 : Bf (F := F) c (st1_4 t)) (f7 : Bf (F := F) c (st1_5 t)) (f8 : Bf (F := F) c (st1_6 t)) (f9 : Bf (F := F) c (st1_7 t)),
  (st1_0 t).view.read (Elt F) f2 = blk V 1 c 0 t → (st1_1 t).view.read (Elt F) f3 = blk V 1 c 1 t →
  (st1_2 t).view.read (Elt F) f4 = blk V 1 c 2 t → (st1_3 t).view.read (Elt F) f5 = blk V 1 c 3 t →
  (st1_4 t).view.read (Elt F) f6 = blk V 1 c 4 t → (st1_5 t).view.read (Elt F) f7 = blk V 1 c 5 t →
  (st1_6 t).view.read (Elt F) f8 = blk V 1 c 6 t → (st1_7 t).view.read (Elt F) f9 = blk V 1 c 7 t →
  rowOk c t (ginRun c (st1_0 t) (hs1_0 t) (st1_1 t) (hs1_1 t) (st1_2 t) (hs1_2 t) (st1_3 t) (hs1_3 t) (st1_4 t) (hs1_4 t) (st1_5 t) (hs1_5 t)
    (st1_6 t) (hs1_6 t) (st1_7 t) (hs1_7 t) (st1_8 t) (hs1_8 t) f2 f3 f4 f5 f6 f7 f8 f9).1

theorem obligation1 (hok : RowsOk V rowOk) (c : Dev nD) :
    BodyObligationRel (dats V 1 c) (defs₀ (F := F)) Variants.none () Set.univ (mark 1) (left V rowOk 1 c) := fun t => by
  rw [bigSep_W1, bigSep_W1, defs₀_row1]
  show iprop(Pipeline.scopedRest spec1 c ∗ (dats V 1 c).owesAt () t.castSucc
      ∗ (∃ d, owns (c : Thread nD τ) (st1_0 t) fullShare ((dats V 1 c).before 0 t d))
      ∗ (∃ d, owns (c : Thread nD τ) (st1_1 t) fullShare ((dats V 1 c).before 1 t d))
      ∗ (∃ d, owns (c : Thread nD τ) (st1_2 t) fullShare ((dats V 1 c).before 2 t d))
      ∗ (∃ d, owns (c : Thread nD τ) (st1_3 t) fullShare ((dats V 1 c).before 3 t d))
      ∗ (∃ d, owns (c : Thread nD τ) (st1_4 t) fullShare ((dats V 1 c).before 4 t d))
      ∗ (∃ d, owns (c : Thread nD τ) (st1_5 t) fullShare ((dats V 1 c).before 5 t d))
      ∗ (∃ d, owns (c : Thread nD τ) (st1_6 t) fullShare ((dats V 1 c).before 6 t d))
      ∗ (∃ d, owns (c : Thread nD τ) (st1_7 t) fullShare ((dats V 1 c).before 7 t d))
      ∗ (∃ Y, ⌜((dats V 1 c).toRRel (mark 1) (left V rowOk 1 c)).Finds 8 t Y⌝ ∗ owns (c : Thread nD τ) (st1_8 t) fullShare Y))
    ⊢ wp frame (wpE (defs₀ (F := F)) Variants.none c none) Set.univ (bodyAt1 t) fun _ =>
      iprop(Pipeline.scopedRest spec1 c ∗ (dats V 1 c).owesAt () t.castSucc
        ∗ owns (c : Thread nD τ) (st1_0 t) fullShare (blk V 1 c 0 t)
        ∗ owns (c : Thread nD τ) (st1_1 t) fullShare (blk V 1 c 1 t)
        ∗ owns (c : Thread nD τ) (st1_2 t) fullShare (blk V 1 c 2 t)
        ∗ owns (c : Thread nD τ) (st1_3 t) fullShare (blk V 1 c 3 t)
        ∗ owns (c : Thread nD τ) (st1_4 t) fullShare (blk V 1 c 4 t)
        ∗ owns (c : Thread nD τ) (st1_5 t) fullShare (blk V 1 c 5 t)
        ∗ owns (c : Thread nD τ) (st1_6 t) fullShare (blk V 1 c 6 t)
        ∗ owns (c : Thread nD τ) (st1_7 t) fullShare (blk V 1 c 7 t)
        ∗ (∃ X, ⌜left1 rowOk c t X⌝ ∗ owns (c : Thread nD τ) (st1_8 t) fullShare X))
  simp only [before1_0, before1_1, before1_2, before1_3, before1_4, before1_5, before1_6, before1_7]
  simp only [owns_isWhole c (hs1_0 t), owns_isWhole c (hs1_1 t), owns_isWhole c (hs1_2 t), owns_isWhole c (hs1_3 t), owns_isWhole c (hs1_4 t),
    owns_isWhole c (hs1_5 t), owns_isWhole c (hs1_6 t), owns_isWhole c (hs1_7 t), owns_isWhole c (hs1_8 t)]
  iintro ⟨HS, HO, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, %hf6, H6⟩, ⟨%d7, %f7, %hf7, H7⟩, ⟨%Y, %hY, %f8, %hf8, H8⟩⟩
  subst hf8
  iapply ((ginRun c (st1_0 t) (hs1_0 t) (st1_1 t) (hs1_1 t) (st1_2 t) (hs1_2 t) (st1_3 t) (hs1_3 t) (st1_4 t) (hs1_4 t) (st1_5 t) (hs1_5 t)
    (st1_6 t) (hs1_6 t) (st1_7 t) (hs1_7 t) (st1_8 t) (hs1_8 t) f0 f1 f2 f3 f4 f5 f6 f7).2 (grid1.coords t) f8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HS]; · iexact HS
  isplitl [HO]; · iexact HO
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap
  · iexists _; isplitr; swap; · iexact H8
    ipureintro; rfl
  ipureintro
  exact left1_of V rowOk c t f8 _ (hok c t f0 f1 f2 f3 f4 f5 f6 f7 hf0 hf1 hf2 hf3 hf4 hf5 hf6 hf7) hY

end Cert.KernelIdeal.Hand

end
-- ==== Proof.KI.Run.lean ====
/-
  The idealised kernel's run: its two host stretches and three regions in a row. Each region is entered at whatever contents
  the ones before it may have left, so the buffers at the end are described by a chain of existentials (`End`).
-/
module

public import proofs.«01_k».proof.Proof.KI.Obligations

@[expose] public section

noncomputable section

namespace Cert.KernelIdeal.Hand

open Cert.KernelIdeal Cert.KernelIdeal.Gen Cert.Segments
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel Seg HostSeg)

variable {F : FTy → Type} [FloatOps F] [Named F]

local notation "𝕄" => MT nD τ sig Unit (Elt F) ℕ UU ℕ

/-- A core's unscoped buffers' contents, for every core. -/
abbrev Vals (F : FTy → Type) : Type := Dev nD → Valuation τ sig (Elt F)

variable (rowOk : Vals F → Dev nD → Fin cfg1.N → FVec F S1x7500 .f32 → Prop)

/-- The regions' proof data as relations. -/
abbrev rdat (V : Vals F) (p : Fin 3) (c : Dev nD) : RDat τ (Elt F) Unit ℕ UU ℕ (cfgs p) c :=
  (dats V p c).toRRel (mark p) (left V (rowOk V) p c)

/-- What region `p` makes of the buffers it finds at `V`: its result's array at contents the write-backs may leave it at. -/
def stepOf (p : Fin 3) (o : Fin (cfgs p).W) (V : Vals F) (c : Dev nD) (V' : Valuation τ sig (Elt F)) : Prop :=
  ∃ Z : Buf (Elt F) (((cfgs p).win o).arr.view.loc (c.tc : Thread nD τ)),
    V' = Function.update (V c) (Proc.devRef .tc (Pipeline.arrRef (cfgs p).spec o)) Z ∧ (rdat rowOk V p c).ArrAt o (cfgs p).N Z

theorem stepOf_next (p : Fin 3) (o : Fin (cfgs p).W) (ho : ∀ w, w ≠ o → ((cfgs p).win w).isOut = false)
    (hr : ∀ w, w ≠ o → Pipeline.arrRef (cfgs p).spec w ≠ Pipeline.arrRef (cfgs p).spec o) (V : Vals F) (c : Dev nD)
    (A : (w : Fin (cfgs p).W) → Buf (Elt F) (((cfgs p).win w).arr.view.loc (c.tc : Thread nD τ)))
    (hA : ∀ w, (rdat rowOk V p c).ArrAt w (cfgs p).N (A w)) :
    ∃ V', stepOf rowOk p o V c V' ∧ (∀ w, A w = V' (Proc.devRef .tc (Pipeline.arrRef (cfgs p).spec w)))
        ∧ ∀ d ∈ Pipeline.ucRefs τ sig \ Pipeline.arrRefs (cfgs p).spec, V' d = V c d := by
  refine ⟨_, ⟨A o, rfl, hA o⟩, fun w => ?_, fun d hd => ?_⟩
  · by_cases h : w = o
    · subst h; exact (Function.update_self (f := V c) (Proc.devRef .tc (Pipeline.arrRef (cfgs p).spec w)) (A w)).symm
    · have h1 := hA w
      rw [RDat.ArrAt_in _ w (ho w h)] at h1
      rw [h1]
      exact (Function.update_of_ne (fun e => hr w h (Proc.devRef_injective (τ := τ) (sig := sig) .tc e)) _ _).symm
  · refine Function.update_of_ne (fun e => ?_) _ _
    subst e
    exact (Finset.mem_sdiff.mp hd).2 (Finset.mem_map.mpr ⟨_, Finset.mem_image.mpr ⟨o, Finset.mem_univ _, rfl⟩, rfl⟩)

variable (m : (ℓ : Loc nD τ sig) → Buf (Elt F) ℓ)

/-- The buffers when the transposing region is entered, after it, after the main region, after the two reshapes, and at the end. -/
def at1 (c : Dev nD) (V : Valuation τ sig (Elt F)) : Prop := V = V1 m c
def at2 (c : Dev nD) (V : Valuation τ sig (Elt F)) : Prop := ∃ x : Vals F, at1 m c (x c) ∧ stepOf rowOk 0 1 x c V
def at3 (c : Dev nD) (V : Valuation τ sig (Elt F)) : Prop := ∃ x : Vals F, at2 rowOk m c (x c) ∧ stepOf rowOk 1 8 x c V
def at4 (c : Dev nD) (V : Valuation τ sig (Elt F)) : Prop := ∃ x : Vals F, at3 rowOk m c (x c) ∧ V = StableHlo.after hostOps2 (x c)
def at5 (c : Dev nD) (V : Valuation τ sig (Elt F)) : Prop := ∃ x : Vals F, at4 rowOk m c (x c) ∧ stepOf rowOk 2 5 x c V

/-- Nothing waits on anything here. -/
abbrev L₀ : GSem nD τ sig → Finset Unit := fun _ => ∅
abbrev lv₀ : GSem nD τ sig → Unit → ℕ := fun _ _ => 0

/-- The copy of the rounds that the launch takes, and the one that the regions run on. -/
abbrev EPa : Emb (URounds (GSem nD τ sig) Unit) 𝕄 := embL
abbrev EPb : Emb (URounds (GSem nD τ sig) Unit) 𝕄 := embR

/-- Pipeline `p`'s ghost state. -/
abbrev gh (p : Fin 3) (c : Dev nD) : sProp 𝕄 := ghostOf (pcfgs (F := F)) adm EPb p c

theorem arrs_sub (p : Fin 3) : Pipeline.arrRefs (τ := τ) (cfgs p).spec ⊆ Pipeline.ucRefs τ sig :=
  Pipeline.arrRefs_sub_ucRefs _ (by revert p; decide)

theorem ins0 : ∀ w : Fin 2, w ≠ 1 → (cfg0.win w).isOut = false := by decide
theorem ins1 : ∀ w : Fin 9, w ≠ 8 → (cfg1.win w).isOut = false := by decide
theorem ins2 : ∀ w : Fin 6, w ≠ 5 → (cfg2.win w).isOut = false := by decide
theorem refs0 : ∀ w : Fin 2, w ≠ 1 → Pipeline.arrRef spec0 w ≠ Pipeline.arrRef spec0 1 := by decide
theorem refs1 : ∀ w : Fin 9, w ≠ 8 → Pipeline.arrRef spec1 w ≠ Pipeline.arrRef spec1 8 := by decide
theorem refs2 : ∀ w : Fin 6, w ≠ 5 → Pipeline.arrRef spec2 w ≠ Pipeline.arrRef spec2 5 := by decide

variable (hok : ∀ V, RowsOk V (rowOk V))

abbrev HS (F : FTy → Type) [FloatOps F] [Named F] : Type 1 := HostSeg (Ix := Unit) (Name := ℕ) (U := UU) (Lvl := ℕ) (pcfgs (F := F)) defs₀ Variants.none L₀ lv₀

/-- A region entered at `V`, its result window `o`. -/
abbrev Reg (p : Fin 3) (V : Vals F) : Type 1 :=
  RDat.RegionSeg (pcfgs (F := F)) adm (relOf (pcfgs (F := F)) adm (dats V) mark (left V (rowOk V))) () defs₀ Variants.none L₀ lv₀ p

set_option backward.isDefEq.respectTransparency.types false in
def regAt (p : Fin 3) (kit : Pipeline.LaunchFacts (nD := nD) (τ := τ) cfgs p) (o : Fin (cfgs p).W) (V : Vals F)
    (ho : ∀ w, w ≠ o → ((cfgs p).win w).isOut = false)
    (hr : ∀ w, w ≠ o → Pipeline.arrRef (cfgs p).spec w ≠ Pipeline.arrRef (cfgs p).spec o)
    (hbody : ∀ c, BodyObligationRel (dats V p c) (defs₀ (F := F)) Variants.none () Set.univ (mark p) (left V (rowOk V) p c))
    (Er : Dev nD → sProp 𝕄) : Reg rowOk p V :=
  regionRel (pcfgs (F := F)) adm (dats V) () defs₀ Variants.none L₀ lv₀ mark (left V (rowOk V)) p kit.toP rfl
    hbody (fun _ _ => rfl) (fun _ => rfl) (fun c => (dats V p c).share_full fun _ => rfl) (fun _ _ => rfl) V (fun _ _ => rfl) (arrs_sub p)
    (stepOf rowOk p o V) (fun c A hA => stepOf_next rowOk p o ho hr V c A hA) Er

def reg0 (V : Vals F) : Reg rowOk 0 V :=
  regAt rowOk 0 launch0 1 V ins0 refs0 (obligation0 V (rowOk V)) (fun c => iprop(gh 1 c ∗ gh 2 c))
def reg1 (V : Vals F) : Reg rowOk 1 V :=
  regAt rowOk 1 launch1 8 V ins1 refs1 (obligation1 V (rowOk V) (hok V)) (fun c => gh 2 c)
def reg2 (V : Vals F) : Reg rowOk 2 V :=
  regAt rowOk 2 launch2 5 V ins2 refs2 (obligation2 V (rowOk V)) (fun c => iprop(emp))

/-- The regions as host segments, entered at any contents that they may be. -/
def host0 : HS F :=
  someHost (pcfgs (F := F)) defs₀ Variants.none L₀ lv₀ (fun (x : Vals F) c => at1 m c (x c))
    (fun x => regionHost (pcfgs (F := F)) adm () defs₀ Variants.none L₀ lv₀ _ cellOf_inj EPb (reg0 rowOk x))
    (Prog.lift (.customCall (Pipeline.entry 0) ())) (fun _ => rfl)

def host1 : HS F :=
  someHost (pcfgs (F := F)) defs₀ Variants.none L₀ lv₀ (fun (x : Vals F) c => at2 rowOk m c (x c))
    (fun x => regionHost (pcfgs (F := F)) adm () defs₀ Variants.none L₀ lv₀ _ cellOf_inj EPb (reg1 rowOk hok x))
    (Prog.lift (.customCall (Pipeline.entry 1) ())) (fun _ => rfl)

def host2 : HS F :=
  someHost (pcfgs (F := F)) defs₀ Variants.none L₀ lv₀ (fun (x : Vals F) c => at3 rowOk m c (x c))
    (fun x => HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) x (fun c => iprop(noDebt c ∗ gh 2 c)))
    (StableHlo.seq hostOps2) (fun _ => rfl)

def host3 : HS F :=
  someHost (pcfgs (F := F)) defs₀ Variants.none L₀ lv₀ (fun (x : Vals F) c => at4 rowOk m c (x c))
    (fun x => regionHost (pcfgs (F := F)) adm () defs₀ Variants.none L₀ lv₀ _ cellOf_inj EPb (reg2 rowOk x))
    (Prog.lift (.customCall (Pipeline.entry 2) ())) (fun _ => rfl)

abbrev hostA : HS F :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (fun c => iprop(noDebt c ∗ gh 0 c ∗ gh 1 c ∗ gh 2 c))

abbrev segs (c : Dev nD) : List (RDat.Seg (pcfgs (F := F)) adm (fun p c => (rdat rowOk (V0 m) p c : RDat τ (Elt F) Unit ℕ UU ℕ (cfgs p) c)) () defs₀ Variants.none L₀ lv₀) :=
  [.host (hostA m), .host (host0 rowOk m), .host (host1 rowOk m hok), .host (host2 rowOk m), .host (host3 rowOk m)]

/-- The rounds' initial state of the three pipelines. -/
abbrev u₁ : URounds (GSem nD τ sig) Unit := initOf (Pipeline.cells cfgs cellOf_inj) (Pipeline.launchToks cfgs cellOf_inj)

/-- The launch's own ghost resources: the kit's copy of the rounds, and each core's three pipelines in the other. -/
theorem ghosts : (ownU ((u₁, u₁) : UU) : sProp 𝕄)
    ⊢ |={Set.univ}=> iprop(BI.own (EPa (F := F) u₁) ∗ bigSep Finset.univ fun c : Dev nD => iprop(gh (F := F) 0 c ∗ gh 1 c ∗ gh 2 c)) := by
  have h3 (Φ : Fin 3 → sProp 𝕄) : bigSep Finset.univ Φ ⊢ iprop(Φ 0 ∗ Φ 1 ∗ Φ 2) := by
    rw [show (Finset.univ : Finset (Fin 3)) = {0, 1, 2} from by decide, bigSep_insert (by decide), bigSep_insert (by decide), bigSep_singleton]
    exact .rfl
  iintro H
  ihave H' := (ownU_pair u₁ u₁) $$ H
  icases H' with ⟨Ha, Hb⟩
  imod (Pipeline.fund_ghost cfgs EPb cellOf_inj) $$ Hb with ⟨Hc, Ht⟩
  imodintro
  isplitl [Ha]; · iexact Ha
  ihave Hs := (show iprop((bigSep Finset.univ fun c : Dev nD => bigSep Finset.univ fun p => Pipeline.cellsGhost cfgs EPb p c)
      ∗ (bigSep Finset.univ fun c : Dev nD => bigSep Finset.univ fun p => (Pipeline.toksInit cfgs EPb p c : sProp 𝕄)))
      ⊢ bigSep Finset.univ fun c : Dev nD => iprop(gh (F := F) 0 c ∗ gh 1 c ∗ gh 2 c) from by
    rw [← bigSep_sep']
    refine bigSep_mono fun c _ => ?_
    rw [← bigSep_sep']
    exact h3 _) $$ [Hc Ht]
  · isplitl [Hc]; · iexact Hc
    iexact Ht
  iexact Hs

include hok in
set_option backward.isDefEq.respectTransparency.types false in
/-- THE RUN: the kernel ends, with every unscoped buffer as `at5` says and every counter at zero. -/
theorem run (g : Dev nD → PrngReg) :
    θ_run (defs (F := F)) (onTc (τ := τ) (main (F := F))) ⟨m, fun _ => 0, g⟩ (fun r =>
      (∀ c : Dev nD, ∃ V, at5 rowOk m c V ∧ ∀ b ∈ Pipeline.ucRefs τ sig, r.2.mem (c, b) = V b) ∧ r.2.sem = fun _ => 0) := by
  refine Pipeline.RDat.θ_run_regions_kit_dev_sems (pcfgs (F := F)) adm (fun p c => rdat rowOk (V0 m) p c) () cellOf_inj (EPa (F := F)) defs₀ Variants.none L₀ lv₀ m g main
    (segs rowOk m hok)
    (fun c Q => by
      rewrite [main_chain c, RDat.Seg.run_eq_chain,
        show (segs rowOk m hok c).map RDat.Seg.prog = [
          StableHlo.seq hostOps0,
          Prog.lift (.customCall (Pipeline.entry 0) ()),
          Prog.lift (.customCall (Pipeline.entry 1) ()),
          StableHlo.seq hostOps2,
          Prog.lift (.customCall (Pipeline.entry 2) ()) ] from rfl]
      dsimp (config := { failIfUnchanged := false }) only
      exact .rfl)
    (fun c => by simp only [segs, RDat.Seg.pipes_host, RDat.Seg.pipes_nil]; decide) 0 (fun _ _ => rfl)
    (fun c : Dev nD => iprop(gh (F := F) 0 c ∗ gh 1 c ∗ gh 2 c)) (u₁, u₁) ghosts
    (T₀ := fun c => iprop(StableHlo.held (c : Thread nD τ) (Pipeline.ucRefs τ sig) (V0 m c) ∗ (noDebt c ∗ gh 0 c ∗ gh 1 c ∗ gh 2 c)))
    (Tₙ := fun c => iprop(∃ V, ⌜at5 rowOk m c V⌝ ∗ StableHlo.held (c : Thread nD τ) (Pipeline.ucRefs τ sig) V))
    (hch := fun c => ⟨.rfl, ?_, ?_, ?_, ?_, ?_⟩)
    (hinit := ?_) (QY := fun c s => ∃ V, at5 rowOk m c V ∧ ∀ b ∈ Pipeline.ucRefs τ sig, s.mem (c, b) = V b)
    (hfin := fun c s' => ?_) (hQ := fun _ h hz => ⟨h, funext fun g => hz g (.inr (regions_no_unscoped g.2))⟩)
  · show iprop(StableHlo.held (c : Thread nD τ) (Pipeline.ucRefs τ sig) (V1 m c) ∗ (noDebt c ∗ gh 0 c ∗ gh 1 c ∗ gh 2 c))
      ⊢ iprop(∃ x : Vals F, ⌜at1 m c (x c)⌝ ∗ (StableHlo.held (c : Thread nD τ) (Pipeline.ucRefs τ sig) (x c) ∗ noDebt c ∗ (gh 1 c ∗ gh 2 c)) ∗ gh 0 c)
    iintro ⟨Hh, HO, H0, H1, H2⟩
    iexists V1 m
    isplitr; · ipureintro; exact rfl
    isplitr [H0]
    · isplitl [Hh]; · iexact Hh
      isplitl [HO]; · iexact HO
      isplitl [H1]; · iexact H1
      iexact H2
    iexact H0
  · show iprop(∃ x : Vals F, ⌜at1 m c (x c)⌝ ∗ ∃ V', ⌜stepOf rowOk 0 1 x c V'⌝ ∗ StableHlo.held (c : Thread nD τ) (Pipeline.ucRefs τ sig) V' ∗ noDebt c ∗ (gh 1 c ∗ gh 2 c))
      ⊢ iprop(∃ x : Vals F, ⌜at2 rowOk m c (x c)⌝ ∗ (StableHlo.held (c : Thread nD τ) (Pipeline.ucRefs τ sig) (x c) ∗ noDebt c ∗ gh 2 c) ∗ gh 1 c)
    iintro ⟨%x, %hx, %V', %hV, Hh, HO, H1, H2⟩
    iexists (fun _ => V')
    isplitr; · ipureintro; exact ⟨x, hx, hV⟩
    isplitr [H1]
    · isplitl [Hh]; · iexact Hh
      isplitl [HO]; · iexact HO
      iexact H2
    iexact H1
  · show iprop(∃ x : Vals F, ⌜at2 rowOk m c (x c)⌝ ∗ ∃ V', ⌜stepOf rowOk 1 8 x c V'⌝ ∗ StableHlo.held (c : Thread nD τ) (Pipeline.ucRefs τ sig) V' ∗ noDebt c ∗ gh 2 c)
      ⊢ iprop(∃ x : Vals F, ⌜at3 rowOk m c (x c)⌝ ∗ (StableHlo.held (c : Thread nD τ) (Pipeline.ucRefs τ sig) (x c) ∗ noDebt c ∗ gh 2 c))
    iintro ⟨%x, %hx, %V', %hV, Hh, HO, H2⟩
    iexists (fun _ => V')
    isplitr; · ipureintro; exact ⟨x, hx, hV⟩
    isplitl [Hh]; · iexact Hh
    isplitl [HO]; · iexact HO
    iexact H2
  · show iprop(∃ x : Vals F, ⌜at3 rowOk m c (x c)⌝ ∗ StableHlo.held (c : Thread nD τ) (Pipeline.ucRefs τ sig) (StableHlo.after hostOps2 (x c)) ∗ (noDebt c ∗ gh 2 c))
      ⊢ iprop(∃ x : Vals F, ⌜at4 rowOk m c (x c)⌝ ∗ (StableHlo.held (c : Thread nD τ) (Pipeline.ucRefs τ sig) (x c) ∗ noDebt c ∗ emp) ∗ gh 2 c)
    iintro ⟨%x, %hx, Hh, HO, H2⟩
    iexists (fun c => StableHlo.after hostOps2 (x c))
    isplitr; · ipureintro; exact ⟨x, hx, rfl⟩
    isplitr [H2]
    · isplitl [Hh]; · iexact Hh
      isplitl [HO]; · iexact HO
      iempintro
    iexact H2
  · show iprop(∃ x : Vals F, ⌜at4 rowOk m c (x c)⌝ ∗ ∃ V', ⌜stepOf rowOk 2 5 x c V'⌝ ∗ StableHlo.held (c : Thread nD τ) (Pipeline.ucRefs τ sig) V' ∗ noDebt c ∗ emp)
      ⊢ iprop((∃ V, ⌜at5 rowOk m c V⌝ ∗ StableHlo.held (c : Thread nD τ) (Pipeline.ucRefs τ sig) V) ∗ noDebt c)
    iintro ⟨%x, %hx, %V', %hV, Hh, HO, -⟩
    isplitr [HO]
    · iexists V'
      isplitr; · ipureintro; exact ⟨x, hx, hV⟩
      iexact Hh
    iexact HO
  · refine Pipeline.initEach L₀ lv₀ fun c => ?_
    rw [← Pipeline.unscopedBufs_held (Ix := Unit) (Name := ℕ) (U := UU) (Lvl := ℕ) c (V0 m c)]
    iintro ⟨⟨Hb, -, HO, -, -, Hg⟩, -⟩
    imodintro
    isplitl [Hb]; · iexact Hb
    isplitl [HO]; · iexists ∅; iexact HO
    iexact Hg
  · iintro ⟨⟨%V, %hV, Hh⟩, HSI⟩
    unfold StableHlo.held
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro; exact ⟨V, hV, h⟩
    · iexact HSI

end Cert.KernelIdeal.Hand

end
-- ==== Proof.KI.Frame.lean ====
/-
  No step writes an argument: the buffers at the end hold every argument as launched.
-/
module

public import proofs.«01_k».proof.Proof.KI.Run

@[expose] public section

noncomputable section

namespace Cert.KernelIdeal.Hand

open Cert.KernelIdeal Cert.KernelIdeal.Gen
open Idealize.ShloMosaic Idealize.ShloMosaic.TcCoe
open Idealize.SL.Sem

variable {F : FTy → Type} [FloatOps F] [Named F]
variable (rowOk : Vals F → Dev nD → Fin cfg1.N → FVec F S1x7500 .f32 → Prop) (m : (ℓ : Loc nD τ sig) → Buf (Elt F) ℓ)

theorem stepOf_of {p : Fin 3} {o : Fin (cfgs p).W} {V : Vals F} {c : Dev nD} {V' : Valuation τ sig (Elt F)}
    (h : stepOf rowOk p o V c V') (r : Ref sig .tc) (hr : r ≠ Pipeline.arrRef (cfgs p).spec o) :
    V' (Proc.devRef .tc r) = V c (Proc.devRef .tc r) := by
  obtain ⟨Z, rfl, -⟩ := h
  exact Function.update_of_ne (StableHlo.devRef_ne_of_ne hr) _ _

/-- What is written at all. -/
abbrev written : List (Ref sig .tc) := main_v21 :: main_v22 :: main_v25 :: (hostOps0_W ++ hostOps2_W)

theorem at1_of {c : Dev nD} {V} (h : at1 m c V) (r : Ref sig .tc) (hr : r ∉ hostOps0_W) : V (Proc.devRef .tc r) = m ((c.tc : Thread nD τ).loc r) := by
  cases h; exact V1_of m c r hr

theorem at2_of {c : Dev nD} {V} (h : at2 rowOk m c V) (r : Ref sig .tc) (hr : r ∉ written) : V (Proc.devRef .tc r) = m ((c.tc : Thread nD τ).loc r) := by
  obtain ⟨x, h1, h⟩ := h
  exact (stepOf_of rowOk h r (fun e => hr (by rw [e]; exact List.mem_cons_self))).trans
    (at1_of m h1 r fun e => hr (by simp only [written, List.mem_cons, List.mem_append]; exact .inr (.inr (.inr (.inl (by simpa using e))))))

theorem at3_of {c : Dev nD} {V} (h : at3 rowOk m c V) (r : Ref sig .tc) (hr : r ∉ written) : V (Proc.devRef .tc r) = m ((c.tc : Thread nD τ).loc r) := by
  obtain ⟨x, h1, h⟩ := h
  exact (stepOf_of rowOk h r (fun e => hr (by rw [e]; exact List.mem_cons_of_mem _ List.mem_cons_self))).trans (at2_of rowOk m h1 r hr)

theorem at4_of {c : Dev nD} {V} (h : at4 rowOk m c V) (r : Ref sig .tc) (hr : r ∉ written) : V (Proc.devRef .tc r) = m ((c.tc : Thread nD τ).loc r) := by
  obtain ⟨x, h1, rfl⟩ := h
  exact (StableHlo.after_of_writes_sub hostOps2 _ hostOps2_writes
    (fun e => hr (by simp only [written, List.mem_cons, List.mem_append]; exact .inr (.inr (.inr (.inr (by simpa using e))))))).trans (at3_of rowOk m h1 r hr)

theorem at5_of {c : Dev nD} {V} (h : at5 rowOk m c V) (r : Ref sig .tc) (hr : r ∉ written) : V (Proc.devRef .tc r) = m ((c.tc : Thread nD τ).loc r) := by
  obtain ⟨x, h1, h⟩ := h
  exact (stepOf_of rowOk h r (fun e => hr (by rw [e]; exact List.mem_cons_of_mem _ (List.mem_cons_of_mem _ List.mem_cons_self)))).trans (at4_of rowOk m h1 r hr)

/-- The arguments are as launched. -/
def Args (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)

/-- An unscoped buffer is among those the run reads at the end. -/
theorem mem_uc (r : Ref sig .tc) (h : ¬ r.isScoped = true) : (Proc.devRef .tc r : DevRef τ sig) ∈ Pipeline.ucRefs τ sig :=
  Finset.mem_filter.mpr ⟨StableHlo.devRef_mem_tcRefs r, h⟩

theorem args_of {c : Dev nD} {V} (h : at5 rowOk m c V) (s : (ℓ : Loc nD τ sig) → Buf (Elt F) ℓ)
    (hs : ∀ b ∈ Pipeline.ucRefs τ sig, s (c, b) = V b) : Args m s c := by
  have key (r : Ref sig .tc) (hu : ¬ r.isScoped = true) (hr : r ∉ written) :
      s ((c.tc : Thread nD τ).loc r) = m ((c.tc : Thread nD τ).loc r) :=
    (hs _ (mem_uc r hu)).trans (at5_of rowOk m h r hr)
  exact ⟨key main_arg0 (by decide) (by decide), key main_arg1 (by decide) (by decide), key main_arg2 (by decide) (by decide),
    key main_arg3 (by decide) (by decide), key main_arg4 (by decide) (by decide), key main_arg5 (by decide) (by decide),
    key main_arg6 (by decide) (by decide), key main_arg7 (by decide) (by decide), key main_arg8 (by decide) (by decide),
    key main_arg9 (by decide) (by decide), key main_arg10 (by decide) (by decide), key main_arg11 (by decide) (by decide)⟩

/-- THE FRAME. -/
theorem frame (g : Dev nD → PrngReg) :
    θ_run (defs (F := F)) (onTc (τ := τ) (main (F := F))) ⟨m, fun _ => 0, g⟩ (fun r =>
      (∀ c : Dev nD, Args m r.2.mem c) ∧ r.2.sem = fun _ => 0) := by
  refine (θ_run _ _ _).mono ?_ (run (fun _ _ _ _ => True) m (fun V c t _ _ _ _ _ _ _ _ _ _ _ _ _ _ _ _ => trivial) g)
  rintro r ⟨h, hz⟩
  exact ⟨fun c => let ⟨V, hV, hs⟩ := h c; args_of _ m hV _ hs, hz⟩

end Cert.KernelIdeal.Hand

end
-- ==== Proof.KI.Blocks.lean ====
/-
  The idealised kernel's window blocks: what each region's staging buffers hold after a fetch, as entries of the arrays.
-/
module

public import proofs.«01_k».proof.Proof.KI.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]
variable (V : Vals F) (c : Dev nD)

theorem lt3 (t : Fin grid0.N) : t.val < 3 := Nat.lt_of_lt_of_eq t.isLt N_0
theorem lt64 (t : Fin grid1.N) : t.val < 64 := Nat.lt_of_lt_of_eq t.isLt N_1

theorem i0_0 : ∀ t : Fin grid0.N, win0_0.index t = ![t.val, 0, 0] := by decide +kernel
theorem i0_1 : ∀ t : Fin grid0.N, win0_1.index t = ![t.val, 0, 0, 0] := by decide +kernel
theorem i1_0 : ∀ t : Fin grid1.N, win1_0.index t = ![0, t.val, 0, 0] := by decide +kernel
theorem i1_1 : ∀ t : Fin grid1.N, win1_1.index t = ![0, 0] := by decide +kernel
theorem i1_2 : ∀ t : Fin grid1.N, win1_2.index t = ![0, 0, 0] := by decide +kernel
theorem i1_3 : ∀ t : Fin grid1.N, win1_3.index t = ![0, 0] := by decide +kernel
theorem i1_4 : ∀ t : Fin grid1.N, win1_4.index t = ![0, 0, 0] := by decide +kernel
theorem i1_5 : ∀ t : Fin grid1.N, win1_5.index t = ![0, 0] := by decide +kernel
theorem i1_6 : ∀ t : Fin grid1.N, win1_6.index t = ![0, 0, 0] := by decide +kernel
theorem i1_7 : ∀ t : Fin grid1.N, win1_7.index t = ![0, 0] := by decide +kernel
theorem i2_0 : ∀ t : Fin grid2.N, win2_0.index t = ![0, 0] := by decide +kernel
theorem i2_1 : ∀ t : Fin grid2.N, win2_1.index t = ![0, 0] := by decide +kernel
theorem i2_2 : ∀ t : Fin grid2.N, win2_2.index t = ![0, 0] := by decide +kernel
theorem i2_3 : ∀ t : Fin grid2.N, win2_3.index t = ![0, 0] := by decide +kernel
theorem i2_4 : ∀ t : Fin grid2.N, win2_4.index t = ![0, 0] := by decide +kernel

/-- The transposing region's point `t` is handed channel `t` of the features, transposed. -/
theorem blk0_0 (t : Fin grid0.N) (r : Fin 7500) (b : Fin 64) :
    blk V 0 c 0 t (ix3 0 r b) = V c (Proc.devRef .tc main_v20) (ix3 ⟨t.val, lt3 t⟩ r b) := by
  refine ((cfg0.win 0).fill_xinj _ _ _ (ix3 0 r b)).trans ?_
  show V c (Proc.devRef .tc main_v20) (((cfg0.win 0).blk t).view.emb (ix3 0 r b)) = _
  refine congrArg _ ?_
  blk_ext [i0_0]

/-- The main region's point `t` is handed batch row `t` of every channel. -/
theorem blk1_0 (t : Fin grid1.N) (k : Fin 3) (r : Fin 7552) :
    blk V 1 c 0 t (ix4 k 0 0 r) = V c (Proc.devRef .tc main_v21) (ix4 k ⟨t.val, lt64 t⟩ 0 r) := by
  refine ((cfg1.win 0).fill_xinj _ _ _ (ix4 k 0 0 r)).trans ?_
  show V c (Proc.devRef .tc main_v21) (((cfg1.win 0).blk t).view.emb (ix4 k 0 0 r)) = _
  refine congrArg _ ?_
  blk_ext [i1_0]

/-! The other operands of the main region and all those of the last are handed whole. -/

theorem blk1_1 (t : Fin grid1.N) : blk V 1 c 1 t = V c (Proc.devRef .tc main_v18) := by
  funext j
  refine ((cfg1.win 1).fill_xinj _ _ _ j).trans ?_
  show V c (Proc.devRef .tc main_v18) (((cfg1.win 1).blk t).view.emb j) = _
  refine congrArg _ ?_
  blk_ext [i1_1]
theorem blk1_2 (t : Fin grid1.N) : blk V 1 c 2 t = V c (Proc.devRef .tc main_arg2) := by
  funext j
  refine ((cfg1.win 2).fill_xinj _ _ _ j).trans ?_
  show V c (Proc.devRef .tc main_arg2) (((cfg1.win 2).blk t).view.emb j) = _
  refine congrArg _ ?_
  blk_ext [i1_2]
theorem blk1_3 (t : Fin grid1.N) : blk V 1 c 3 t = V c (Proc.devRef .tc main_arg3) := by
  funext j
  refine ((cfg1.win 3).fill_xinj _ _ _ j).trans ?_
  show V c (Proc.devRef .tc main_arg3) (((cfg1.win 3).blk t).view.emb j) = _
  refine congrArg _ ?_
  blk_ext [i1_3]
theorem blk1_4 (t : Fin grid1.N) : blk V 1 c 4 t = V c (Proc.devRef .tc main_arg4) := by
  funext j
  refine ((cfg1.win 4).fill_xinj _ _ _ j).trans ?_
  show V c (Proc.devRef .tc main_arg4) (((cfg1.win 4).blk t).view.emb j) = _
  refine congrArg _ ?_
  blk_ext [i1_4]
theorem blk1_5 (t : Fin grid1.N) : blk V 1 c 5 t = V c (Proc.devRef .tc main_arg5) := by
  funext j
  refine ((cfg1.win 5).fill_xinj _ _ _ j).trans ?_
  show V c (Proc.devRef .tc main_arg5) (((cfg1.win 5).blk t).view.emb j) = _
  refine congrArg _ ?_
  blk_ext [i1_5]
theorem blk1_6 (t : Fin grid1.N) : blk V 1 c 6 t = V c (Proc.devRef .tc main_arg6) := by
  funext j
  refine ((cfg1.win 6).fill_xinj _ _ _ j).trans ?_
  show V c (Proc.devRef .tc main_arg6) (((cfg1.win 6).blk t).view.emb j) = _
  refine congrArg _ ?_
  blk_ext [i1_6]
theorem blk1_7 (t : Fin grid1.N) : blk V 1 c 7 t = V c (Proc.devRef .tc main_arg7) := by
  funext j
  refine ((cfg1.win 7).fill_xinj _ _ _ j).trans ?_
  show V c (Proc.devRef .tc main_arg7) (((cfg1.win 7).blk t).view.emb j) = _
  refine congrArg _ ?_
  blk_ext [i1_7]
theorem blk2_0 (t : Fin grid2.N) : blk V 2 c 0 t = V c (Proc.devRef .tc main_v22) := by
  funext j
  refine ((cfg2.win 0).fill_xinj _ _ _ j).trans ?_
  show V c (Proc.devRef .tc main_v22) (((cfg2.win 0).blk t).view.emb j) = _
  refine congrArg _ ?_
  blk_ext [i2_0]
theorem blk2_1 (t : Fin grid2.N) : blk V 2 c 1 t = V c (Proc.devRef .tc main_arg8) := by
  funext j
  refine ((cfg2.win 1).fill_xinj _ _ _ j).trans ?_
  show V c (Proc.devRef .tc main_arg8) (((cfg2.win 1).blk t).view.emb j) = _
  refine congrArg _ ?_
  blk_ext [i2_1]
theorem blk2_2 (t : Fin grid2.N) : blk V 2 c 2 t = V c (Proc.devRef .tc main_v23) := by
  funext j
  refine ((cfg2.win 2).fill_xinj _ _ _ j).trans ?_
  show V c (Proc.devRef .tc main_v23) (((cfg2.win 2).blk t).view.emb j) = _
  refine congrArg _ ?_
  blk_ext [i2_2]
theorem blk2_3 (t : Fin grid2.N) : blk V 2 c 3 t = V c (Proc.devRef .tc main_arg10) := by
  funext j
  refine ((cfg2.win 3).fill_xinj _ _ _ j).trans ?_
  show V c (Proc.devRef .tc main_arg10) (((cfg2.win 3).blk t).view.emb j) = _
  refine congrArg _ ?_
  blk_ext [i2_3]
theorem blk2_4 (t : Fin grid2.N) : blk V 2 c 4 t = V c (Proc.devRef .tc main_v24) := by
  funext j
  refine ((cfg2.win 4).fill_xinj _ _ _ j).trans ?_
  show V c (Proc.devRef .tc main_v24) (((cfg2.win 4).blk t).view.emb j) = _
  refine congrArg _ ?_
  blk_ext [i2_4]

end Cert.KernelIdeal.Hand

end

end
-- ==== Proof.KI.Chunks.lean ====
/-
  The main body's row as a function of whole tensors: the body applies the block-diagonal matrix to 38 chunks of 200 rows and
  lays the products end to end; read so, its 38 × 7 products are seven applications of one function.
-/
module

public import proofs.«01_k».proof.Proof.KI.Bodies
public import Idealize.ShloMosaic.Lib.MatmulPlain
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- Chunk `k` lies inside the 7600 rows. -/
theorem chunk_slices (C : ℕ) (k : Fin 38) : Shape.Slices ⟨2, ![7600, C]⟩ ![200 * k.val, 0] ⟨2, ![200, C]⟩ :=
  ⟨rfl, fun a => by
    have := k.isLt
    match a with
    | ⟨0, _⟩ => show 200 * k.val + 200 ≤ 7600; omega
    | ⟨1, _⟩ => show 0 + C ≤ C; omega⟩

/-- The 38 chunks fill the 7600 rows. -/
theorem chunk_fill (C : ℕ) (f : Fin 38 → FVec F ⟨2, ![200, C]⟩ .f32) :
    Shape.Concatenates ((List.ofFn fun n : Fin 38 => (⟨⟨2, ![200, C]⟩, f n⟩ : (s : Shape) × (s.Idx → F .f32))).map (·.1)) ⟨2, ![7600, C]⟩ 0 := by
  refine ⟨by simp, fun s hs => ?_, ?_⟩
  · obtain ⟨x, hx, rfl⟩ := List.mem_map.mp hs
    obtain ⟨n, rfl⟩ := List.mem_ofFn.mp hx
    refine ⟨rfl, fun b hb => ?_⟩
    match b with
    | ⟨0, _⟩ => exact absurd rfl hb
    | ⟨1, _⟩ => rfl
  · simp [List.map_ofFn, Function.comp_def]

/-- `d` applied to each of the 38 chunks of 200 rows of `x`, the products laid end to end. -/
def bdApply (C : ℕ) (d : FVec F S200x200 .f32) (x : FVec F ⟨2, ![7600, C]⟩ .f32) : FVec F ⟨2, ![7600, C]⟩ .f32 :=
  concatenate ⟨2, ![7600, C]⟩ 0 (List.ofFn fun k : Fin 38 => ⟨⟨2, ![200, C]⟩,
    matmul (DotDims.plain 200 200 C) none d (extractStridedSlice ⟨2, ![200, C]⟩ ![200 * k.val, 0] x (chunk_slices C k))
      (constant ⟨2, ![200, C]⟩ .f32 0x00000000#32)⟩) (chunk_fill C _)

/-- Entry `s` of the stacked first-layer weights lies inside them; so below for the other weights. -/
theorem in_w0 (s : Fin 3) : ∀ a, (![s.val, 0, 0] : Fin 3 → ℕ) a + S1x3x256.size a ≤ S3x3x256.size a := by revert s; decide +kernel
theorem in_w1 (s : Fin 3) : ∀ a, (![s.val, 0, 0] : Fin 3 → ℕ) a + S1x256x256.size a ≤ S3x256x256.size a := by revert s; decide +kernel
theorem in_w2 (s : Fin 3) : ∀ a, (![s.val, 0, 0] : Fin 3 → ℕ) a + S1x256x1.size a ≤ S3x256x1.size a := by revert s; decide +kernel
theorem in_b (s : Fin 3) : ∀ a, (![s.val, 0] : Fin 2 → ℕ) a + S1x256.size a ≤ S3x256.size a := by revert s; decide +kernel
theorem in_b2 (s : Fin 3) : ∀ a, (![s.val, 0] : Fin 2 → ℕ) a + S1x1.size a ≤ S3x1.size a := by revert s; decide +kernel

/-- A layer's bias and rectifier on 7600 × 256 rows. -/
def relu256 (x : FVec F S7600x256 .f32) (b : FVec F S1x256 .f32) : FVec F S7600x256 .f32 :=
  maximumf (addf x (broadcastTo S7600x256 b broadcasts_S1x256_S7600x256)) (broadcast S7600x256 (Scalar.ofBits .f32 0x00000000#32))

/-- The first layer of stack `s` on rows already aggregated. -/
def hid0 (s : Fin 3) (x : FVec F S7600x3 .f32) (X4 : Vec F S3x3x256 .f32) (X5 : Vec F S3x256 .f32) : FVec F S7600x256 .f32 :=
  relu256 (matmul (DotDims.plain 7600 3 256) none x
    (shapeCast S3x256 (View.ld X4 (Rect.unit (s := S3x3x256) ![s.val, 0, 0] S1x3x256.size (in_w0 s))) shapeCasts_S1x3x256_S3x256)
    (constant S7600x256 .f32 0x00000000#32)) (View.ld X5 (Rect.unit (s := S3x256) ![s.val, 0] S1x256.size (in_b s)))

/-- The second layer of stack `s` on rows already aggregated. -/
def hid1 (s : Fin 3) (x : FVec F S7600x256 .f32) (X6 : Vec F S3x256x256 .f32) (X7 : Vec F S3x256 .f32) : FVec F S7600x256 .f32 :=
  relu256 (matmul (DotDims.plain 7600 256 256) none x
    (shapeCast S256x256 (View.ld X6 (Rect.unit (s := S3x256x256) ![s.val, 0, 0] S1x256x256.size (in_w1 s))) shapeCasts_S1x256x256_S256x256)
    (constant S7600x256 .f32 0x00000000#32)) (View.ld X7 (Rect.unit (s := S3x256) ![s.val, 0] S1x256.size (in_b s)))

/-- The last layer's product of stack `s`, taken before its rows are aggregated. -/
def proj (s : Fin 3) (x : FVec F S7600x256 .f32) (X8 : Vec F S3x256x1 .f32) : FVec F S7600x1 .f32 :=
  matmul (DotDims.plain 7600 256 1) none x
    (shapeCast S256x1 (View.ld X8 (Rect.unit (s := S3x256x1) ![s.val, 0, 0] S1x256x1.size (in_w2 s))) shapeCasts_S1x256x1_S256x1)
    (constant S7600x1 .f32 0x00000000#32)

/-- The last layer's bias and rectifier. -/
def relu1 (x : FVec F S7600x1 .f32) (b : FVec F S1x1 .f32) : FVec F S7600x1 .f32 :=
  maximumf (addf x (broadcastTo S7600x1 b broadcasts_S1x1_S7600x1)) (broadcast S7600x1 (Scalar.ofBits .f32 0x00000000#32))

/-- Stack `s` before its last bias, from the aggregated features. -/
def tower (s : Fin 3) (d : FVec F S200x200 .f32) (x : FVec F S7600x3 .f32) (X4 : Vec F S3x3x256 .f32) (X5 : Vec F S3x256 .f32)
    (X6 : Vec F S3x256x256 .f32) (X7 : Vec F S3x256 .f32) (X8 : Vec F S3x256x1 .f32) : FVec F S7600x1 .f32 :=
  bdApply 1 d (proj s (hid1 s (bdApply 256 d (hid0 s x X4 X5)) X6 X7) X8)

/-- The last bias of stack `s`. -/
def lastBias (s : Fin 3) (X9 : Vec F S3x1 .f32) : FVec F S1x1 .f32 :=
  View.ld X9 (Rect.unit (s := S3x1) ![s.val, 0] S1x1.size (in_b2 s))

/-- The row the main body stores, from the contents of its blocks. -/
def ginRow (X2 : Vec F S3x1x1x7552 .f32) (X3 : Vec F S200x200 .f32) (X4 : Vec F S3x3x256 .f32) (X5 : Vec F S3x256 .f32)
    (X6 : Vec F S3x256x256 .f32) (X7 : Vec F S3x256 .f32) (X8 : Vec F S3x256x1 .f32) (X9 : Vec F S3x1 .f32) : FVec F S1x7500 .f32 :=
  have d := k1_pay3 (View.ld X3 (Rect.unit (s := S200x200) ![0, 0] S200x200.size inb_S200x200_S200x200_0_0))
  have x := bdApply 3 d (k1_pay2 (View.ld X2 (Rect.unit (s := S3x1x1x7552) ![0, 0, 0, 0] S3x1x1x7552.size inb_S3x1x1x7552_S3x1x1x7552_0_0_0_0)))
  k1_pay1 (addf (relu1 (tower 0 d x X4 X5 X6 X7 X8) (lastBias 0 X9)) (relu1 (tower 1 d x X4 X5 X6 X7 X8) (lastBias 1 X9)))
    (tower 2 d x X4 X5 X6 X7 X8) (lastBias 2 X9)

variable (c : Dev nD)
    (M2 : Memref sig .tc .vmem S3x1x1x7552 .f32) (h2 : M2.IsWhole) (M3 : Memref sig .tc .vmem S200x200 .f32) (h3 : M3.IsWhole)
    (M4 : Memref sig .tc .vmem S3x3x256 .f32) (h4 : M4.IsWhole) (M5 : Memref sig .tc .vmem S3x256 .f32) (h5 : M5.IsWhole)
    (M6 : Memref sig .tc .vmem S3x256x256 .f32) (h6 : M6.IsWhole) (M7 : Memref sig .tc .vmem S3x256 .f32) (h7 : M7.IsWhole)
    (M8 : Memref sig .tc .vmem S3x256x1 .f32) (h8 : M8.IsWhole) (M9 : Memref sig .tc .vmem S3x1 .f32) (h9 : M9.IsWhole)
    (M10 : Memref sig .tc .vmem S64x7500 .f32) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)

/-- The matrix as the body reads it. -/
abbrev dOf : FVec F S200x200 .f32 :=
  k1_pay3 (View.ld (M3.view.read (Elt F) f3) (Rect.unit (s := S200x200) ![0, 0] S200x200.size inb_S200x200_S200x200_0_0))

/-- The aggregated features as the body computes them. -/
abbrev xOf : FVec F S7600x3 .f32 :=
  bdApply 3 (dOf c M3 f3) (k1_pay2 (View.ld (M2.view.read (Elt F) f2)
    (Rect.unit (s := S3x1x1x7552) ![0, 0, 0, 0] S3x1x1x7552.size inb_S3x1x1x7552_S3x1x1x7552_0_0_0_0)))

theorem v90_eq : ginRun.sl.v90 c M2 M3 f2 f3 = xOf c M2 M3 f2 f3 := rfl

theorem v98_eq : ginRun.sl.v98 c M2 M3 M4 M5 f2 f3 f4 f5
    = hid0 0 (ginRun.sl.v90 c M2 M3 f2 f3) (M4.view.read (Elt F) f4) (M5.view.read (Elt F) f5) := rfl
theorem v175_eq : ginRun.sl.v175 c M2 M3 M4 M5 f2 f3 f4 f5 = bdApply 256 (dOf c M3 f3) (ginRun.sl.v98 c M2 M3 M4 M5 f2 f3 f4 f5) := rfl
theorem v186_eq : ginRun.sl.v186 c M2 M3 M4 M5 M6 M7 M8 f2 f3 f4 f5 f6 f7 f8
    = proj 0 (hid1 0 (ginRun.sl.v175 c M2 M3 M4 M5 f2 f3 f4 f5) (M6.view.read (Elt F) f6) (M7.view.read (Elt F) f7)) (M8.view.read (Elt F) f8) := rfl
theorem v263_eq : ginRun.sl.v263 c M2 M3 M4 M5 M6 M7 M8 f2 f3 f4 f5 f6 f7 f8
    = bdApply 1 (dOf c M3 f3) (ginRun.sl.v186 c M2 M3 M4 M5 M6 M7 M8 f2 f3 f4 f5 f6 f7 f8) := rfl
theorem v276_eq : ginRun.sl.v276 c M2 M3 M4 M5 f2 f3 f4 f5
    = hid0 1 (ginRun.sl.v90 c M2 M3 f2 f3) (M4.view.read (Elt F) f4) (M5.view.read (Elt F) f5) := rfl
theorem v353_eq : ginRun.sl.v353 c M2 M3 M4 M5 f2 f3 f4 f5 = bdApply 256 (dOf c M3 f3) (ginRun.sl.v276 c M2 M3 M4 M5 f2 f3 f4 f5) := rfl
theorem v364_eq : ginRun.sl.v364 c M2 M3 M4 M5 M6 M7 M8 f2 f3 f4 f5 f6 f7 f8
    = proj 1 (hid1 1 (ginRun.sl.v353 c M2 M3 M4 M5 f2 f3 f4 f5) (M6.view.read (Elt F) f6) (M7.view.read (Elt F) f7)) (M8.view.read (Elt F) f8) := rfl
theorem v441_eq : ginRun.sl.v441 c M2 M3 M4 M5 M6 M7 M8 f2 f3 f4 f5 f6 f7 f8
    = bdApply 1 (dOf c M3 f3) (ginRun.sl.v364 c M2 M3 M4 M5 M6 M7 M8 f2 f3 f4 f5 f6 f7 f8) := rfl
theorem v455_eq : ginRun.sl.v455 c M2 M3 M4 M5 f2 f3 f4 f5
    = hid0 2 (ginRun.sl.v90 c M2 M3 f2 f3) (M4.view.read (Elt F) f4) (M5.view.read (Elt F) f5) := rfl
theorem v532_eq : ginRun.sl.v532 c M2 M3 M4 M5 f2 f3 f4 f5 = bdApply 256 (dOf c M3 f3) (ginRun.sl.v455 c M2 M3 M4 M5 f2 f3 f4 f5) := rfl
theorem v543_eq : ginRun.sl.v543 c M2 M3 M4 M5 M6 M7 M8 f2 f3 f4 f5 f6 f7 f8
    = proj 2 (hid1 2 (ginRun.sl.v532 c M2 M3 M4 M5 f2 f3 f4 f5) (M6.view.read (Elt F) f6) (M7.view.read (Elt F) f7)) (M8.view.read (Elt F) f8) := rfl
theorem v620_eq : ginRun.sl.v620 c M2 M3 M4 M5 M6 M7 M8 f2 f3 f4 f5 f6 f7 f8
    = bdApply 1 (dOf c M3 f3) (ginRun.sl.v543 c M2 M3 M4 M5 M6 M7 M8 f2 f3 f4 f5 f6 f7 f8) := rfl
theorem v447_eq : ginRun.sl.v447 c M2 M3 M4 M5 M6 M7 M8 M9 f2 f3 f4 f5 f6 f7 f8 f9
    = addf (relu1 (ginRun.sl.v263 c M2 M3 M4 M5 M6 M7 M8 f2 f3 f4 f5 f6 f7 f8) (lastBias 0 (M9.view.read (Elt F) f9)))
        (relu1 (ginRun.sl.v441 c M2 M3 M4 M5 M6 M7 M8 f2 f3 f4 f5 f6 f7 f8) (lastBias 1 (M9.view.read (Elt F) f9))) := rfl

/-- The row is `ginRow` of what the blocks read as. -/
theorem ginRun_eq : (ginRun c M2 h2 M3 h3 M4 h4 M5 h5 M6 h6 M7 h7 M8 h8 M9 h9 M10 h10 f2 f3 f4 f5 f6 f7 f8 f9).1
    = ginRow (M2.view.read (Elt F) f2) (M3.view.read (Elt F) f3) (M4.view.read (Elt F) f4) (M5.view.read (Elt F) f5)
        (M6.view.read (Elt F) f6) (M7.view.read (Elt F) f7) (M8.view.read (Elt F) f8) (M9.view.read (Elt F) f9) := by
  show k1_pay1 (ginRun.sl.v447 c M2 M3 M4 M5 M6 M7 M8 M9 f2 f3 f4 f5 f6 f7 f8 f9) (ginRun.sl.v620 c M2 M3 M4 M5 M6 M7 M8 f2 f3 f4 f5 f6 f7 f8)
    (lastBias 2 (M9.view.read (Elt F) f9)) = _
  rw [v447_eq, v620_eq, v543_eq, v532_eq, v455_eq, v441_eq, v364_eq, v353_eq, v276_eq, v263_eq, v186_eq, v175_eq, v98_eq, v90_eq]
  rfl

end Cert.KernelIdeal.Hand
-- ==== Proof.KI.Steps.lean ====
/-
  What each region of the idealised kernel leaves in its result array, at an index.
-/
module

public import proofs.«01_k».proof.Proof.KI.Blocks
public import proofs.«01_k».proof.Proof.KI.Chunks
public import Idealize.ShloMosaic.Lib.Pipeline.ArrRel
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat RDat)

variable {F : FTy → Type} [FloatOps F] [Named F]

/-- What the main region's body stores at a point: the row of its fetched blocks. -/
def rowIs (V : Vals F) (c : Dev nD) (t : Fin cfg1.N) (row : FVec F S1x7500 .f32) : Prop :=
  row = ginRow (blk V 1 c 0 t) (blk V 1 c 1 t) (blk V 1 c 2 t) (blk V 1 c 3 t) (blk V 1 c 4 t) (blk V 1 c 5 t) (blk V 1 c 6 t) (blk V 1 c 7 t)

theorem rowsOk (V : Vals F) : RowsOk V (rowIs V) := by
  intro c t f2 f3 f4 f5 f6 f7 f8 f9 h2 h3 h4 h5 h6 h7 h8 h9
  unfold rowIs
  rw [ginRun_eq, h2, h3, h4, h5, h6, h7, h8, h9]

/-- The transposing body's value: entry `(b, r)` of the block is entry `(r, b)` of what was fetched. -/
theorem trPay_apply (X : Vec F S1x7500x64 .f32) (b : Fin 64) (r : Fin 7500) : k0_pay1 X (ix4 0 b 0 r) = X (ix3 0 r b) := by
  unfold k0_pay1
  pointwise

variable {V : Vals F} {c : Dev nD} {V' : Valuation τ sig (Elt F)}
variable (rowOk : Vals F → Dev nD → Fin cfg1.N → FVec F S1x7500 .f32 → Prop)

/-- The last region's result is its body's value, from the arrays it finds. -/
theorem step2_val (h : stepOf rowOk 2 5 V c V') :
    V' (Proc.devRef .tc main_v25) = k2_pay1 (V c (Proc.devRef .tc main_v22)) (V c (Proc.devRef .tc main_arg8)) (V c (Proc.devRef .tc main_v23))
      (V c (Proc.devRef .tc main_arg10)) (V c (Proc.devRef .tc main_v24)) := by
  obtain ⟨Z, rfl, hZ⟩ := h
  obtain ⟨X, hX, hj⟩ := RDat.ArrAt.emb_eq_of_wholeAt hZ (t₀ := t2_0) (by decide +kernel)
  have hX' : X = k2_pay1 (blk V 2 c 0 t2_0) (blk V 2 c 1 t2_0) (blk V 2 c 2 t2_0) (blk V 2 c 3 t2_0) (blk V 2 c 4 t2_0) :=
    Dat.toRRel_leaves (dats V 2 c) rfl hX
  rw [blk2_0, blk2_1, blk2_2, blk2_3, blk2_4] at hX'
  rw [← hX']
  refine (Function.update_self (f := V c) (Proc.devRef .tc (Pipeline.arrRef (cfgs 2).spec 5)) Z).trans ?_
  funext j
  exact hj j

/-- The main region's last point. -/
def t63 : Fin grid1.N := ⟨63, Nat.lt_of_lt_of_eq (by decide) N_1.symm⟩

/-- Row `b` of the main region's result is what point `b` stored. -/
theorem step1_val (h : stepOf rowIs 1 8 V c V') (b : Fin 64) (r : Fin 7500) :
    V' (Proc.devRef .tc main_v22) (ix2 b r)
      = ginRow (blk V 1 c 0 ⟨b.val, b.isLt.trans_eq N_1.symm⟩) (V c (Proc.devRef .tc main_v18)) (V c (Proc.devRef .tc main_arg2))
          (V c (Proc.devRef .tc main_arg3)) (V c (Proc.devRef .tc main_arg4)) (V c (Proc.devRef .tc main_arg5)) (V c (Proc.devRef .tc main_arg6))
          (V c (Proc.devRef .tc main_arg7)) (ix2 0 r) := by
  obtain ⟨Z, rfl, hZ⟩ := h
  obtain ⟨X, hX, hj⟩ := RDat.ArrAt.emb_eq_of_wholeAt hZ (t₀ := t63) (by decide +kernel)
  have hX' : left1 (rowIs V) c t63 X := Dat.toRRel_leaves (dats V 1 c) rfl hX
  obtain ⟨row, hrow, hv⟩ := hX' ⟨b.val, b.isLt.trans_eq N_1.symm⟩ (by have := b.isLt; show b.val ≤ 63; omega)
  unfold rowIs at hrow
  rw [blk1_1, blk1_2, blk1_3, blk1_4, blk1_5, blk1_6, blk1_7] at hrow
  rw [← hrow]
  refine (congrFun (Function.update_self (f := V c) (Proc.devRef .tc (Pipeline.arrRef (cfgs 1).spec 8)) Z) (ix2 b r)).trans ?_
  exact (hj (ix2 b r)).trans (hv (ix2 b r) (ix2 0 r) rfl rfl)

/-- The transposing region's result, where it is written: channel `k`, batch row `b`, lane `r`. -/
theorem step0_val (h : stepOf rowOk 0 1 V c V') (k : Fin 3) (b : Fin 64) (r : Fin 7500) :
    V' (Proc.devRef .tc main_v21) (ix4 k b 0 ⟨r.val, by omega⟩) = V c (Proc.devRef .tc main_v20) (ix3 k r b) := by
  obtain ⟨Z, rfl, hZ⟩ := h
  refine (congrFun (Function.update_self (f := V c) (Proc.devRef .tc (Pipeline.arrRef (cfgs 0).spec 1)) Z) _).trans ?_
  obtain ⟨X, hX, hA⟩ := RDat.ArrAt.exists_exact hZ
  have e := hA (Function.update (fun _ _ _ => Classical.arbitrary _) 1 X) fun u _ _ => by rw [Function.update_self]
  rw [e]
  refine Dat.arrAt_forall_of_covers ((rdat rowOk V 0 c).withAfter (Function.update (fun _ _ _ => Classical.arbitrary _) 1 X)) 1 (fun i v => ∀ (k : Fin 3) (b : Fin 64) (r : Fin 7500), (i 0).val = k.val → (i 1).val = b.val → (i 3).val = r.val →
      v = V c (Proc.devRef .tc main_v20) (ix3 k r b)) (by decide +kernel) (fun t hf y => ?_) (ix4 k b 0 (⟨r.val, by omega⟩ : Fin 7552)) (Memref.isWhole_whole _) k b r rfl rfl rfl
  intro k b r hk hb hr
  have hX' : left0 V c t (X t) := Dat.toRRel_leaves (dats V 0 c) rfl (hX t t.isLt hf)
  have hy : ∀ a, (((cfg0.win 1).xinj (cfg0.grid.coords t) y) a).val = ((ix4 0 b 0 r : S1x64x1x7500.Idx) a).val := by
    blk_simp [i0_1] at hk hb hr
    idx_bounds y
    intro a
    fin_cases a
    · show (y 0).val = 0; omega
    · show (y 1).val = b.val; omega
    · show (y 2).val = 0; omega
    · show (y 3).val = r.val; omega
  have hkt : k = ⟨t.val, lt3 t⟩ := by
    blk_simp at hk
    have e1 : ((cfgs 0).win 1).index t 0 = t.val := congrFun (i0_1 t) 0
    exact Fin.ext (hk.symm.trans e1)
  rw [RDat.withAfter_after, Function.update_self]
  refine (hX' _ (ix4 0 b 0 r) hy).trans ?_
  rw [trPay_apply, blk0_0, hkt]

end Cert.KernelIdeal.Hand

end

end
-- ==== Proof.KI.Host.lean ====
/-
  What the idealised kernel's host stretches compute, at an index: the features transposed, the block-diagonal of `A` plus
  the identity, and the two biases as rows.
-/
module

public import proofs.«01_k».proof.Proof.KI.Frame
public import proofs.«01_k».proof.Proof.Gin
public import Idealize.ShloMosaic.Lib.Pointwise
public import Idealize.ShloMosaic.Lib.StableHlo.ReadAt
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The transposed features: entry `(k, 25 t + u, b)` is the features' `(b, t, u, k)`. -/
theorem ftr_apply (k : Fin 3) (t : Fin 300) (u : Fin 25) (b : Fin 64) :
    V1 m c (Proc.devRef .tc main_v20) (ix3 k ⟨25 * t.val + u.val, by omega⟩ b) = m ((c.tc : Thread nD τ).loc main_arg0) (ix4 b t u k) := by
  unfold V1 hostOps0
  after_reads_at

/-- An entry of an identity matrix, as the host computes it from two index arrays. -/
theorem eye_apply (i j : ℕ) (hi : i < 25) (hj : j < 25) :
    (FloatOps.uitofp .f32 (IntOp.cmpi CmpIPredicate.eq (IntOp.addi (BitVec.ofNat 32 i) 0#32) (BitVec.ofNat 32 j)) : Ideal .f32)
      = if i = j then (1 : EReal) else 0 := by
  have h : (IntOp.addi (BitVec.ofNat 32 i) 0#32) = BitVec.ofNat 32 i := by simp [IntOp.addi]
  rw [h]
  by_cases e : i = j
  · subst e
    simp [IntOp.cmpi, FloatOps.uitofp]
  · have : BitVec.ofNat 32 i ≠ BitVec.ofNat 32 j := fun q => e (by
      have := congrArg BitVec.toNat q
      simp only [BitVec.toNat_ofNat] at this
      omega)
    simp [IntOp.cmpi, FloatOps.uitofp, this, e]

/-- The block-diagonal matrix: `A` plus the identity on each of the eight diagonal blocks, zero off them. -/
theorem bd_apply (p q : Fin 8) (u v : Fin 25) :
    (V1 m c (Proc.devRef .tc main_v18) (ix2 ⟨25 * p.val + u.val, by omega⟩ ⟨25 * q.val + v.val, by omega⟩) : EReal)
      = if p = q then Gin.hat (fun u v => (m ((c.tc : Thread nD τ).loc main_arg1) (ix2 u v) : EReal)) u v else 0 := by
  have h : @Eq (Ideal .f32) (V1 m c (Proc.devRef .tc main_v18) (ix2 ⟨25 * p.val + u.val, by omega⟩ ⟨25 * q.val + v.val, by omega⟩))
      (FloatOps.mulf (FloatOps.uitofp .f32 (IntOp.cmpi CmpIPredicate.eq (IntOp.addi (BitVec.ofNat 32 p.val) 0#32) (BitVec.ofNat 32 q.val)))
          (FloatOps.addf (m ((c.tc : Thread nD τ).loc main_arg1) (ix2 u v))
            (FloatOps.uitofp .f32 (IntOp.cmpi CmpIPredicate.eq (IntOp.addi (BitVec.ofNat 32 u.val) 0#32) (BitVec.ofNat 32 v.val))))) := by
    unfold V1 hostOps0
    after_reads_at
    try rfl
  refine h.trans ?_
  rw [eye_apply _ _ (by omega) (by omega), eye_apply _ _ (by omega) (by omega)]
  unfold Gin.hat
  simp only [Fin.ext_iff]
  split
  · exact one_mul _
  · exact zero_mul _

variable (V : Valuation τ sig (Elt Ideal))

theorem bf0_apply (j : Fin 512) : StableHlo.after hostOps2 V (Proc.devRef .tc main_v23) (ix2 0 j) = V (Proc.devRef .tc main_arg9) (ix1 j) := by
  unfold hostOps2
  after_reads_at

theorem bf1_apply (j : Fin 60) : StableHlo.after hostOps2 V (Proc.devRef .tc main_v24) (ix2 0 j) = V (Proc.devRef .tc main_arg11) (ix1 j) := by
  unfold hostOps2
  after_reads_at

end Cert.KernelIdeal.Hand

end

end
-- ==== Proof.KI.RowVal.lean ====
/-
  The main body's row at an index, over the extended reals: of a row that stands for a node of a real frame, the three stacks'
  outputs added and divided by three.
-/
module

public import proofs.«01_k».proof.Proof.KI.Chunks
public import proofs.«01_k».proof.Proof.Gin
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Cert.Gin
open Idealize.ShloMosaic Idealize.ShloMosaic.TcCoe

theorem ix2_eq {m n : ℕ} (r : Fin m) (j : Fin n) : ix2 r j = ValueIdx.ix2 r j := rfl

/-- A product with accumulator zero at an index. -/
theorem mm_apply {M K N : ℕ} (x : FVec Ideal ⟨2, ![M, K]⟩ .f32) (y : FVec Ideal ⟨2, ![K, N]⟩ .f32) (r : Fin M) (j : Fin N) :
    matmul (DotDims.plain M K N) none x y (constant ⟨2, ![M, N]⟩ .f32 0x00000000#32) (ix2 r j) = ∑ k : Fin K, x (ix2 r k) * y (ix2 k j) := by
  refine (Ideal.matmul_plain_apply none x y _ r j).trans ?_
  rw [show constant (F := Ideal) ⟨2, ![M, N]⟩ .f32 0x00000000#32 (ValueIdx.ix2 r j) = (0 : EReal) by pointwise]
  exact zero_add _

theorem relu256_apply (x : FVec Ideal S7600x256 .f32) (b : FVec Ideal S1x256 .f32) (r : Fin 7600) (j : Fin 256) :
    relu256 x b (ix2 r j) = max (x (ix2 r j) + b (ix2 0 j)) 0 := by
  unfold relu256
  pointwise

theorem relu1_apply (x : FVec Ideal S7600x1 .f32) (b : FVec Ideal S1x1 .f32) (r : Fin 7600) :
    relu1 x b (ix2 r 0) = max (x (ix2 r 0) + b (ix2 0 0)) 0 := by
  unfold relu1
  pointwise

theorem w0_apply (s : Fin 3) (X : Vec Ideal S3x3x256 .f32) (k : Fin 3) (j : Fin 256) :
    shapeCast S3x256 (View.ld X (Rect.unit (s := S3x3x256) ![s.val, 0, 0] S1x3x256.size (in_w0 s))) shapeCasts_S1x3x256_S3x256 (ix2 k j)
      = X (ix3 s k j) := by
  have h : ∀ y : Vec Ideal S1x3x256 .f32, shapeCast S3x256 y shapeCasts_S1x3x256_S3x256 (ix2 k j) = y (ix3 0 k j) := fun y => by pointwise
  refine (h _).trans (View.ld_unit_apply_of X _ _ _ _ _ fun a => ?_)
  match a with
  | ⟨0, _⟩ => rfl
  | ⟨1, _⟩ => exact (Nat.zero_add _).symm
  | ⟨2, _⟩ => exact (Nat.zero_add _).symm

theorem w1_apply (s : Fin 3) (X : Vec Ideal S3x256x256 .f32) (k : Fin 256) (j : Fin 256) :
    shapeCast S256x256 (View.ld X (Rect.unit (s := S3x256x256) ![s.val, 0, 0] S1x256x256.size (in_w1 s))) shapeCasts_S1x256x256_S256x256 (ix2 k j)
      = X (ix3 s k j) := by
  have h : ∀ y : Vec Ideal S1x256x256 .f32, shapeCast S256x256 y shapeCasts_S1x256x256_S256x256 (ix2 k j) = y (ix3 0 k j) := fun y => by pointwise
  refine (h _).trans (View.ld_unit_apply_of X _ _ _ _ _ fun a => ?_)
  match a with
  | ⟨0, _⟩ => rfl
  | ⟨1, _⟩ => exact (Nat.zero_add _).symm
  | ⟨2, _⟩ => exact (Nat.zero_add _).symm

theorem w2_apply (s : Fin 3) (X : Vec Ideal S3x256x1 .f32) (k : Fin 256) :
    shapeCast S256x1 (View.ld X (Rect.unit (s := S3x256x1) ![s.val, 0, 0] S1x256x1.size (in_w2 s))) shapeCasts_S1x256x1_S256x1 (ix2 k 0)
      = X (ix3 s k 0) := by
  have h : ∀ y : Vec Ideal S1x256x1 .f32, shapeCast S256x1 y shapeCasts_S1x256x1_S256x1 (ix2 k 0) = y (ix3 0 k 0) := fun y => by pointwise
  refine (h _).trans (View.ld_unit_apply_of X _ _ _ _ _ fun a => ?_)
  match a with
  | ⟨0, _⟩ => rfl
  | ⟨1, _⟩ => exact (Nat.zero_add _).symm
  | ⟨2, _⟩ => rfl

theorem b_apply (s : Fin 3) (X : Vec Ideal S3x256 .f32) (j : Fin 256) :
    View.ld X (Rect.unit (s := S3x256) ![s.val, 0] S1x256.size (in_b s)) (ix2 0 j) = X (ix2 s j) := by
  refine View.ld_unit_apply_of X _ _ _ _ _ fun a => ?_
  match a with
  | ⟨0, _⟩ => rfl
  | ⟨1, _⟩ => exact (Nat.zero_add _).symm

theorem lastBias_apply (s : Fin 3) (X : Vec Ideal S3x1 .f32) : lastBias s X (ix2 0 0) = X (ix2 s 0) := by
  refine View.ld_unit_apply_of X _ _ _ _ _ fun a => ?_
  match a with
  | ⟨0, _⟩ => rfl
  | ⟨1, _⟩ => rfl

theorem hid0_apply (s : Fin 3) (x : FVec Ideal S7600x3 .f32) (X4 : Vec Ideal S3x3x256 .f32) (X5 : Vec Ideal S3x256 .f32) (r : Fin 7600) (j : Fin 256) :
    hid0 s x X4 X5 (ix2 r j) = max ((∑ k : Fin 3, x (ix2 r k) * X4 (ix3 s k j)) + X5 (ix2 s j)) 0 := by
  unfold hid0
  rw [relu256_apply, mm_apply, b_apply]
  exact congrArg (max · 0) (congrArg (· + _) (Finset.sum_congr rfl fun k _ => congrArg (_ * ·) (w0_apply s _ k j)))

theorem hid1_apply (s : Fin 3) (x : FVec Ideal S7600x256 .f32) (X6 : Vec Ideal S3x256x256 .f32) (X7 : Vec Ideal S3x256 .f32) (r : Fin 7600) (j : Fin 256) :
    hid1 s x X6 X7 (ix2 r j) = max ((∑ k : Fin 256, x (ix2 r k) * X6 (ix3 s k j)) + X7 (ix2 s j)) 0 := by
  unfold hid1
  rw [relu256_apply, mm_apply, b_apply]
  exact congrArg (max · 0) (congrArg (· + _) (Finset.sum_congr rfl fun k _ => congrArg (_ * ·) (w1_apply s _ k j)))

theorem proj_apply (s : Fin 3) (x : FVec Ideal S7600x256 .f32) (X8 : Vec Ideal S3x256x1 .f32) (r : Fin 7600) :
    proj s x X8 (ix2 r 0) = ∑ k : Fin 256, x (ix2 r k) * X8 (ix3 s k 0) := by
  unfold proj
  rw [mm_apply]
  exact Finset.sum_congr rfl fun k _ => congrArg (_ * ·) (w2_apply s _ k)

/-- The masked features: of a row below 7500, whatever the block's padding holds, the block's entry. -/
theorem pay2_apply (X : Vec Ideal S3x1x1x7552 .f32) (r : Fin 7600) (c : Fin 3) (hr : r.val < 7500):
    k1_pay2 X (ix2 r c) = X (ix4 c 0 0 ⟨r.val, by omega⟩) := by
  unfold k1_pay2
  simp only []
  pointwise
  have h : IntOp.cmpi .slt (BitVec.ofNat 32 r.val) 7500#32 = 1#1 := by
    have : ∀ n : Fin 7500, IntOp.cmpi .slt (BitVec.ofNat 32 n.val) 7500#32 = 1#1 := by decide +kernel
    exact this ⟨r.val, hr⟩
  rw [h, dif_pos (by omega)]
  rfl

theorem pay3_apply (X : Vec Ideal S200x200 .f32) (a b : Fin 200) : k1_pay3 X (ix2 a b) = X (ix2 a b) := by
  unfold k1_pay3
  pointwise

/-- The stored row: the three stacks' sum over three. -/
theorem pay1_apply (x y : FVec Ideal S7600x1 .f32) (z : Vec Ideal S1x1 .f32) (r : Fin 7500) :
    k1_pay1 x y z (ix2 0 r) = (x (ix2 ⟨r.val, by omega⟩ 0) + max (y (ix2 ⟨r.val, by omega⟩ 0) + z (ix2 0 0)) 0) * ((1 / 3 : ℝ) : EReal) := by
  unfold k1_pay1
  pointwise
  rw [show (Named.named κ "third" 0x3EAAAAAB#32 : Ideal .f32) = ((1 / 3 : ℝ) : EReal) from IdealRules.named_const.ideal_named_scalar _ _ _ _ rfl]

/-- Node `u` of frame `t` as a row. -/
def row (t : Fin 304) (u : Fin 25) : Fin 7600 := ⟨25 * t.val + u.val, by omega⟩

/-- The chunked product at an index: only the row's own chunk. -/
theorem bdApply_apply (C : ℕ) (d : FVec Ideal S200x200 .f32) (x : FVec Ideal ⟨2, ![7600, C]⟩ .f32) (r : Fin 7600) (c : Fin C) :
    bdApply C d x (ix2 r c) = ∑ k : Fin 200, d (ix2 ⟨r.val % 200, Nat.mod_lt _ (by decide)⟩ k) * x (ix2 ⟨200 * (r.val / 200) + k.val, by omega⟩ c) := by
  unfold bdApply
  have h := concatenate_ofFn_apply (t := ⟨2, ![7600, C]⟩) (s₁ := ⟨2, ![200, C]⟩) 0 (N := 38) (fun k : Fin 38 =>
    matmul (DotDims.plain 200 200 C) none d (extractStridedSlice ⟨2, ![200, C]⟩ ![200 * k.val, 0] x (chunk_slices C k))
      (constant ⟨2, ![200, C]⟩ .f32 0x00000000#32)) (chunk_fill C _) rfl 200 rfl (ix2 r c) ⟨r.val / 200, by omega⟩ rfl
      (ix2 ⟨r.val % 200, Nat.mod_lt _ (by decide)⟩ c) rfl (fun b hb => by
        match b with
        | ⟨0, _⟩ => exact absurd rfl hb
        | ⟨1, _⟩ => rfl)
  refine h.trans ((mm_apply _ _ _ _).trans (Finset.sum_congr rfl fun k _ => congrArg (_ * ·) (congrArg x (funext fun a => Fin.ext ?_))))
  match a with
  | ⟨0, _⟩ => rfl
  | ⟨1, _⟩ => exact Nat.zero_add _

/-- With a block-diagonal matrix of one 25 × 25 block, the chunked product sums over the row's own frame. -/
theorem bdApply_block (C : ℕ) (d : FVec Ideal S200x200 .f32) (M : Fin 25 → Fin 25 → EReal)
    (hd : ∀ (p q : Fin 8) (u v : Fin 25), d (ix2 ⟨25 * p.val + u.val, by omega⟩ ⟨25 * q.val + v.val, by omega⟩) = if p = q then M u v else 0)
    (x : FVec Ideal ⟨2, ![7600, C]⟩ .f32) (t : Fin 304) (u : Fin 25) (c : Fin C) :
    bdApply C d x (ix2 (row t u) c) = ∑ v : Fin 25, M u v * x (ix2 (row t v) c) := by
  rw [bdApply_apply]
  have hr : (row t u).val = 25 * t.val + u.val := rfl
  rw [← Equiv.sum_comp (finProdFinEquiv (m := 8) (n := 25)), Fintype.sum_prod_type, Finset.sum_eq_single (⟨t.val % 8, Nat.mod_lt _ (by decide)⟩ : Fin 8)]
  · refine Finset.sum_congr rfl fun v _ => ?_
    have h := hd ⟨t.val % 8, Nat.mod_lt _ (by decide)⟩ ⟨t.val % 8, Nat.mod_lt _ (by decide)⟩ u v
    rw [if_pos rfl] at h
    rw [← h]
    refine congrArg₂ (· * ·) (congrArg d ?_) (congrArg x ?_)
    · refine congrArg₂ ix2 (Fin.ext ?_) (Fin.ext ?_)
      · show (25 * t.val + u.val) % 200 = 25 * (t.val % 8) + u.val; omega
      · show v.val + 25 * (t.val % 8) = 25 * (t.val % 8) + v.val; omega
    · refine congrArg₂ ix2 (Fin.ext ?_) rfl
      show 200 * ((25 * t.val + u.val) / 200) + (v.val + 25 * (t.val % 8)) = 25 * t.val + v.val; omega
  · intro q _ hq
    refine Finset.sum_eq_zero fun v _ => ?_
    have h := hd ⟨t.val % 8, Nat.mod_lt _ (by decide)⟩ q u v
    rw [if_neg (fun e => hq e.symm)] at h
    refine (congrArg (· * _) ?_).trans (zero_mul _)
    refine Eq.trans (congrArg d ?_) h
    refine congrArg₂ ix2 (Fin.ext ?_) (Fin.ext ?_)
    · show (25 * t.val + u.val) % 200 = 25 * (t.val % 8) + u.val; omega
    · show v.val + 25 * q.val = 25 * q.val + v.val; omega
  · intro h; exact absurd (Finset.mem_univ _) h

/-- A stack before its last bias, at a node. -/
theorem tower_apply (s : Fin 3) (d : FVec Ideal S200x200 .f32) (M : Fin 25 → Fin 25 → EReal)
    (hd : ∀ (p q : Fin 8) (u v : Fin 25), d (ix2 ⟨25 * p.val + u.val, by omega⟩ ⟨25 * q.val + v.val, by omega⟩) = if p = q then M u v else 0)
    (x : FVec Ideal S7600x3 .f32) (X4 : Vec Ideal S3x3x256 .f32) (X5 : Vec Ideal S3x256 .f32) (X6 : Vec Ideal S3x256x256 .f32)
    (X7 : Vec Ideal S3x256 .f32) (X8 : Vec Ideal S3x256x1 .f32) (t : Fin 304) (u : Fin 25) :
    tower s d (bdApply 3 d x) X4 X5 X6 X7 X8 (ix2 (row t u) 0)
      = towerK M (fun u k => x (ix2 (row t u) k)) (fun k j => X4 (ix3 s k j)) (fun j => X5 (ix2 s j)) (fun k j => X6 (ix3 s k j))
          (fun j => X7 (ix2 s j)) (fun k => X8 (ix3 s k 0)) u := by
  unfold tower towerK aggK layer
  rw [bdApply_block 1 d M hd]
  refine Finset.sum_congr rfl fun v _ => congrArg (_ * ·) ((proj_apply s _ X8 _).trans (Finset.sum_congr rfl fun k _ => congrArg (· * _) ?_))
  rw [hid1_apply]
  refine congrArg (max · 0) (congrArg (· + _) (Finset.sum_congr rfl fun k _ => congrArg (· * _) ?_))
  rw [bdApply_block 256 d M hd]
  refine Finset.sum_congr rfl fun v _ => congrArg (_ * ·) ?_
  rw [hid0_apply]
  refine congrArg (max · 0) (congrArg (· + _) (Finset.sum_congr rfl fun k _ => congrArg (· * _) ?_))
  rw [bdApply_block 3 d M hd]

/-- The stored row at a node of a real frame. -/
theorem ginRow_apply (X2 : Vec Ideal S3x1x1x7552 .f32) (X3 : Vec Ideal S200x200 .f32) (M : Fin 25 → Fin 25 → EReal)
    (hd : ∀ (p q : Fin 8) (u v : Fin 25), X3 (ix2 ⟨25 * p.val + u.val, by omega⟩ ⟨25 * q.val + v.val, by omega⟩) = if p = q then M u v else 0)
    (X4 : Vec Ideal S3x3x256 .f32) (X5 : Vec Ideal S3x256 .f32) (X6 : Vec Ideal S3x256x256 .f32)
    (X7 : Vec Ideal S3x256 .f32) (X8 : Vec Ideal S3x256x1 .f32) (X9 : Vec Ideal S3x1 .f32) (t : Fin 300) (u : Fin 25) :
    ginRow X2 X3 X4 X5 X6 X7 X8 X9 (ix2 0 ⟨25 * t.val + u.val, by omega⟩)
      = meanK M (fun u k => X2 (ix4 k 0 0 ⟨25 * t.val + u.val, by omega⟩)) (fun s k j => X4 (ix3 s k j)) (fun s j => X5 (ix2 s j))
          (fun s k j => X6 (ix3 s k j)) (fun s j => X7 (ix2 s j)) (fun s k => X8 (ix3 s k 0)) (fun s => X9 (ix2 s 0)) u := by
  have e2 : View.ld X2 (Rect.unit (s := S3x1x1x7552) ![0, 0, 0, 0] S3x1x1x7552.size inb_S3x1x1x7552_S3x1x1x7552_0_0_0_0) = X2 :=
    View.ld_unit_zero (by funext a; match a with | ⟨0, _⟩ => rfl | ⟨1, _⟩ => rfl | ⟨2, _⟩ => rfl | ⟨3, _⟩ => rfl) _ _
  have e3 : View.ld X3 (Rect.unit (s := S200x200) ![0, 0] S200x200.size inb_S200x200_S200x200_0_0) = X3 :=
    View.ld_unit_zero (by funext a; match a with | ⟨0, _⟩ => rfl | ⟨1, _⟩ => rfl) _ _
  have hd' : ∀ (p q : Fin 8) (u v : Fin 25), k1_pay3 X3 (ix2 ⟨25 * p.val + u.val, by omega⟩ ⟨25 * q.val + v.val, by omega⟩) = if p = q then M u v else 0 :=
    fun p q u v => (pay3_apply _ _ _).trans (hd p q u v)
  have hx : (fun (u : Fin 25) (k : Fin 3) => k1_pay2 X2 (ix2 (row (Fin.castLE (by decide) t) u) k)) = fun u k => X2 (ix4 k 0 0 ⟨25 * t.val + u.val, by omega⟩) :=
    funext fun u => funext fun k => pay2_apply X2 _ k (by show 25 * t.val + u.val < 7500; omega)
  have ht := fun (s : Fin 3) => tower_apply s (k1_pay3 X3) M hd' (k1_pay2 X2) X4 X5 X6 X7 X8 (Fin.castLE (by decide) t) u
  rw [hx] at ht
  unfold ginRow
  simp only []
  rw [e2, e3, pay1_apply]
  show (addf _ _ (ix2 (row (Fin.castLE (by decide) t) u) 0) + max (tower 2 _ _ _ _ _ _ _ (ix2 (row (Fin.castLE (by decide) t) u) 0) + _) 0) * _ = _
  rw [ht 2, show ∀ (a b : FVec Ideal S7600x1 .f32) i, addf a b i = (a i + b i : EReal) from fun _ _ _ => rfl, relu1_apply, relu1_apply, ht 0, ht 1,
    lastBias_apply, lastBias_apply, lastBias_apply]
  rfl

end Cert.KernelIdeal.Hand
-- ==== Proof.KI.Final.lean ====
/-
  The idealised kernel's result at an index, from the arguments it was launched at.
-/
module

public import proofs.«01_k».proof.Proof.KI.Steps
public import proofs.«01_k».proof.Proof.KI.Host
public import proofs.«01_k».proof.Proof.KI.RowVal

@[expose] public section

set_option maxRecDepth 16384

noncomputable section

namespace Cert.KernelIdeal.Hand

open Cert.KernelIdeal Cert.KernelIdeal.Gen Cert.Gin
open Idealize.ShloMosaic Idealize.ShloMosaic.TcCoe

variable (m : (ℓ : Loc nD τ sig) → Buf (Elt Ideal) ℓ) {c : Dev nD} {V : Valuation τ sig (Elt Ideal)}

/-- An argument array, as launched. -/
abbrev arg (c : Dev nD) (r : Ref sig .tc) : Buf (Elt Ideal) ((c.tc : Thread nD τ).loc r) := m ((c.tc : Thread nD τ).loc r)

/-- The channels the main region finds. -/
theorem ft_val (h : at2 rowIs m c V) (k : Fin 3) (b : Fin 64) (t : Fin 300) (u : Fin 25) :
    V (Proc.devRef .tc main_v21) (ix4 k b 0 ⟨25 * t.val + u.val, by omega⟩) = arg m c main_arg0 (ix4 b t u k) := by
  obtain ⟨x, h1, hs⟩ := h
  refine (step0_val rowIs hs k b ⟨25 * t.val + u.val, by omega⟩).trans ?_
  rw [show x c = V1 m c from h1]
  exact ftr_apply m c k t u b

/-- The block-diagonal matrix the main region finds. -/
theorem bd_val (h : at2 rowIs m c V) (p q : Fin 8) (u v : Fin 25) :
    (V (Proc.devRef .tc main_v18) (ix2 ⟨25 * p.val + u.val, by omega⟩ ⟨25 * q.val + v.val, by omega⟩) : EReal)
      = if p = q then hat (fun u v => (arg m c main_arg1 (ix2 u v) : EReal)) u v else 0 := by
  obtain ⟨x, h1, hs⟩ := h
  rw [stepOf_of rowIs hs main_v18 (by decide), show x c = V1 m c from h1]
  exact bd_apply m c p q u v

/-- The main region's result at a node of batch row `b`. -/
theorem gin_val (h : at3 rowIs m c V) (b : Fin 64) (t : Fin 300) (u : Fin 25) :
    V (Proc.devRef .tc main_v22) (ix2 b ⟨25 * t.val + u.val, by omega⟩)
      = meanK (hat fun u v => arg m c main_arg1 (ix2 u v)) (fun u k => arg m c main_arg0 (ix4 b t u k)) (fun s k j => arg m c main_arg2 (ix3 s k j))
          (fun s j => arg m c main_arg3 (ix2 s j)) (fun s k j => arg m c main_arg4 (ix3 s k j)) (fun s j => arg m c main_arg5 (ix2 s j))
          (fun s k => arg m c main_arg6 (ix3 s k 0)) (fun s => arg m c main_arg7 (ix2 s 0)) u := by
  obtain ⟨x, h2, hs⟩ := h
  refine (step1_val hs b ⟨25 * t.val + u.val, by omega⟩).trans ?_
  refine (ginRow_apply _ _ (hat fun u v => arg m c main_arg1 (ix2 u v)) (bd_val m h2) _ _ _ _ _ _ t u).trans ?_
  have hx : (fun (u : Fin 25) (k : Fin 3) => blk x 1 c 0 ⟨b.val, b.isLt.trans_eq N_1.symm⟩ (ix4 k 0 0 ⟨25 * t.val + u.val, by omega⟩))
      = fun u k => arg m c main_arg0 (ix4 b t u k) :=
    funext fun u => funext fun k => (blk1_0 x c _ k _).trans (ft_val m h2 k b t u)
  rw [hx, at2_of rowIs m h2 main_arg2 (by decide), at2_of rowIs m h2 main_arg3 (by decide), at2_of rowIs m h2 main_arg4 (by decide),
    at2_of rowIs m h2 main_arg5 (by decide), at2_of rowIs m h2 main_arg6 (by decide), at2_of rowIs m h2 main_arg7 (by decide)]

/-- The last body's value at an index. -/
theorem pay_apply (G : FVec Ideal S64x7500 .f32) (W : FVec Ideal S7500x512 .f32) (b0 : FVec Ideal S1x512 .f32) (W' : FVec Ideal S512x60 .f32)
    (b1 : FVec Ideal S1x60 .f32) (b : Fin 64) (j : Fin 60) :
    k2_pay1 (F := Ideal) G W b0 W' b1 (ix2 b j)
      = logit (fun r => G (ix2 b r)) (fun r h => W (ix2 r h)) (fun h => b0 (ix2 0 h)) (fun h j => W' (ix2 h j)) (fun j => b1 (ix2 0 j)) j := by
  unfold k2_pay1 logit
  pointwise

/-- The result, from the main region's. -/
theorem out_val (h : at5 rowIs m c V) : ∃ G : Fin 64 → Fin 7500 → EReal,
    (∀ (b : Fin 64) (t : Fin 300) (u : Fin 25), G b ⟨25 * t.val + u.val, by omega⟩
      = meanK (hat fun u v => arg m c main_arg1 (ix2 u v)) (fun u k => arg m c main_arg0 (ix4 b t u k)) (fun s k j => arg m c main_arg2 (ix3 s k j))
          (fun s j => arg m c main_arg3 (ix2 s j)) (fun s k j => arg m c main_arg4 (ix3 s k j)) (fun s j => arg m c main_arg5 (ix2 s j))
          (fun s k => arg m c main_arg6 (ix3 s k 0)) (fun s => arg m c main_arg7 (ix2 s 0)) u)
    ∧ ∀ (b : Fin 64) (j : Fin 60), V (Proc.devRef .tc main_v25) (ix2 b j)
      = logit (G b) (fun r h => arg m c main_arg8 (ix2 r h)) (fun h => arg m c main_arg9 (ix1 h)) (fun h j => arg m c main_arg10 (ix2 h j))
          (fun j => arg m c main_arg11 (ix1 j)) j := by
  obtain ⟨x, h4, hs⟩ := h
  obtain ⟨y, h3, h4'⟩ := id h4
  refine ⟨fun b r => y c (Proc.devRef .tc main_v22) (ix2 b r), fun b t u => gin_val m h3 b t u, fun b j => ?_⟩
  rw [step2_val rowIs hs]
  refine (pay_apply _ _ _ _ _ b j).trans ?_
  rw [at4_of rowIs m h4 main_arg8 (by decide), at4_of rowIs m h4 main_arg10 (by decide), h4']
  have e0 : StableHlo.after hostOps2 (y c) (Proc.devRef .tc main_v22) = y c (Proc.devRef .tc main_v22) :=
    StableHlo.after_of_writes_sub hostOps2 _ hostOps2_writes (by decide)
  have e1 : (fun h : Fin 512 => StableHlo.after hostOps2 (y c) (Proc.devRef .tc main_v23) (ix2 0 h)) = fun h => arg m c main_arg9 (ix1 h) :=
    funext fun h => (bf0_apply (y c) h).trans (congrFun (at3_of rowIs m h3 main_arg9 (by decide)) _)
  have e2 : (fun h : Fin 60 => StableHlo.after hostOps2 (y c) (Proc.devRef .tc main_v24) (ix2 0 h)) = fun h => arg m c main_arg11 (ix1 h) :=
    funext fun h => (bf1_apply (y c) h).trans (congrFun (at3_of rowIs m h3 main_arg11 (by decide)) _)
  rw [e0, e1, e2]

end Cert.KernelIdeal.Hand

end

end
-- ==== Proof.Algebraic.lean ====
/-
  The idealised kernel's result is the reference's on the same arguments, where the precondition holds.
-/
module

public import proofs.«01_k».proof.Defs
public import proofs.«01_k».proof.Proof.Finite
public import proofs.«01_k».proof.Proof.RefVal
public import proofs.«01_k».proof.Proof.RefFrame
public import proofs.«01_k».proof.Proof.KI.Final

@[expose] public section

set_option maxRecDepth 16384

noncomputable section

namespace Cert.Hand

open Cert.KernelIdeal Cert.KernelIdeal.Gen Cert.KernelIdeal.Hand Cert.Gin
open Idealize.ShloMosaic Idealize.ShloMosaic.TcCoe
open Idealize.SL.Sem

/-- The reference's logits of the arguments a kernel memory holds. -/
def logits (m : (ℓ : Loc nD τ sig) → Buf (Elt Ideal) ℓ) (c : Dev nD) : FVec Ideal S64x60 .f32 :=
  Cert.ReferenceIdeal.Read.val_main_v141 (F := Ideal) (arg m c main_arg0) (arg m c main_arg1) (arg m c main_arg2) (arg m c main_arg3) (arg m c main_arg4)
    (arg m c main_arg5) (arg m c main_arg6) (arg m c main_arg7) (arg m c main_arg8) (arg m c main_arg9) (arg m c main_arg10) (arg m c main_arg11)

/-- The kernel's result is those logits. -/
theorem kernel_logits [Cert.Pre_finite.Facts] (m : (ℓ : Loc nD τ sig) → Buf (Elt Ideal) ℓ) (hp : Cert.Pre_KernelIdeal_finite m) {c : Dev nD}
    {V : Valuation τ sig (Elt Ideal)} (h : at5 rowIs m c V) : (V (Proc.devRef .tc main_v25) : FVec Ideal S64x60 .f32) = logits m c := by
  obtain ⟨h0, h1, h2, h3, h4, h5, h6⟩ := Cert.Pre_finite.Hand.finite _ _ _ _ _ _ _ _ _ _ _ _ (hp c)
  obtain ⟨G, hG, hV⟩ := out_val m h
  funext i
  obtain ⟨b, j, rfl⟩ : ∃ (b : Fin 64) (j : Fin 60), i = ix2 b j := ⟨i 0, i 1, by funext d; fin_cases d <;> rfl⟩
  refine (hV b j).trans (Eq.trans ?_ (Cert.ReferenceIdeal.Hand.logits_apply _ _ _ _ _ _ _ _ _ _ _ _ b j).symm)
  refine congrArg (fun p => logit p _ _ _ _ j) (pool_ext fun t u => ?_)
  refine (hG b t u).trans (Eq.trans ?_ (Cert.ReferenceIdeal.Hand.pool_apply _ _ _ _ _ _ _ _ b t u).symm)
  exact mean_eq _ _ _ _ _ _ _ _ u (fun u v => h1 _) (fun u k => h0 _) (fun s k j => h2 _) (fun s j => h3 _) (fun s k j => h4 _) (fun s j => h5 _) (fun s k => h6 _)

/-- THE VALUE CLAIM. -/
theorem algebraic [Cert.Pre_finite.Facts] : Cert.algebraic_KernelIdeal_ReferenceIdeal_pre_finite (hKernelIdeal := Cert.KernelIdeal.Gen.facts)
    (hReferenceIdeal := Cert.ReferenceIdeal.Gen.facts) := by
  intro m g m' g' hp ha
  refine ⟨fun c => logits m c, ?_, ?_⟩
  · refine (θ_run _ _ _).mono ?_ (run rowIs m rowsOk g)
    rintro r ⟨h, -⟩ c
    obtain ⟨V, hV, hs⟩ := h c
    exact ⟨(hs _ (mem_uc main_v25 (by decide))).trans (kernel_logits m hp hV), args_of rowIs m hV _ hs⟩
  · refine (θ_run _ _ _).mono ?_ (Cert.ReferenceIdeal.Value.run (F := Ideal) m' g')
    intro r h c
    refine ⟨(h c).1.trans ?_, (h c).2⟩
    obtain ⟨e0, e1, e2, e3, e4, e5, e6, e7, e8, e9, e10, e11⟩ := ha c
    rw [Cert.ReferenceIdeal.Read.val_main_v141_eq, e0, e1, e2, e3, e4, e5, e6, e7, e8, e9, e10, e11]
    rfl

end Cert.Hand

end

end
-- ==== Proof.lean ====
/-
  The certificate's claims, put together: the three programs end with their arguments and counters as the frames say,
  the named constant keeps its value, and the idealised kernel's logits are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.K.Frame
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Hand.facts,
    fun m g _ => Cert.Kernel.Hand.frame m g,
    fun m g _ => Cert.KernelIdeal.Hand.frame m g,
    fun m g _ => Cert.KernelIdeal.Hand.frame m g,
    fun m g _ => (θ_run _ _ _).mono (fun r h => ⟨fun c => (h c).2, Cert.ReferenceIdeal.Hand.sem_zero r.2⟩) (Cert.ReferenceIdeal.Value.run (F := Ideal) m g),
    fun m g _ => (θ_run _ _ _).mono (fun r h => ⟨fun c => (h c).2, Cert.ReferenceIdeal.Hand.sem_zero r.2⟩) (Cert.ReferenceIdeal.Value.run (F := Ideal) m g),
    IdealRules.named_const.statement Cert.KernelIdeal.κ "third" .f32 0x3EAAAAAB#32 _ rfl,
    letI := Cert.Pre_finite.Hand.facts
    Cert.Hand.algebraic⟩

end Cert.Proof

end

end
